-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_x_in_table : Cert.Pre_x_in_table.Facts] (m : (ℓ : Loc Cert.Gather.nD Cert.Gather.τ Cert.Gather.sig) → Buf (Elt Bits) ℓ) : Prop :=
  ∀ c : Dev Cert.Gather.nD,
    (Cert.Pre_x_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_x_in_table : Cert.Pre_x_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_x_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_RowsIdeal (m : (ℓ : Loc Cert.RowsIdeal.nD Cert.RowsIdeal.τ Cert.RowsIdeal.sig) → Buf (Elt Ideal) ℓ) : Prop :=
  True

def Pre_RowsIdeal_x_in_table [hPre_x_in_table : Cert.Pre_x_in_table.Facts] (m : (ℓ : Loc Cert.RowsIdeal.nD Cert.RowsIdeal.τ Cert.RowsIdeal.sig) → Buf (Elt Ideal) ℓ) : Prop :=
  ∀ c : Dev Cert.RowsIdeal.nD,
    (Cert.Pre_x_in_table.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_Rows [hPre_x_in_table : Cert.Pre_x_in_table.Facts] (m : (ℓ : Loc Cert.Rows.nD Cert.Rows.τ Cert.Rows.sig) → Buf (Elt Bits) ℓ) : Prop :=
  ∀ c : Dev Cert.Rows.nD,
    (Cert.Pre_x_in_table.fn (F := Bits) (m ((c.tc : Thread Cert.Rows.nD Cert.Rows.τ).loc Cert.Rows.main_arg0)) (m ((c.tc : Thread Cert.Rows.nD Cert.Rows.τ).loc Cert.Rows.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gather [hGather : Cert.Gather.Facts] [hPre_x_in_table : Cert.Pre_x_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_x_in_table : Cert.Pre_x_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsIdeal_pre_x_in_table [hRowsIdeal : Cert.RowsIdeal.Facts] [hPre_x_in_table : Cert.Pre_x_in_table.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_x_in_table m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_Rows [hRows : Cert.Rows.Facts] [hPre_x_in_table : Cert.Pre_x_in_table.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gather_GatherIdeal : Prop :=
  True

def algebraic_GatherIdeal_RowsIdeal [hGatherIdeal : Cert.GatherIdeal.Facts] [hRowsIdeal : Cert.RowsIdeal.Facts] [hPre_x_in_table : Cert.Pre_x_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v13)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v13) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v1) = v0 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1))

def bitexact_Gather_Rows [hGather : Cert.Gather.Facts] [hRows : Cert.Rows.Facts] [hPre_x_in_table : Cert.Pre_x_in_table.Facts] : Prop :=
  ∀ (m : (ℓ : Loc Cert.Gather.nD Cert.Gather.τ Cert.Gather.sig) → Buf (Elt Bits) ℓ) (g : Dev Cert.Gather.nD → PrngReg)
    (m' : (ℓ : Loc Cert.Rows.nD Cert.Rows.τ Cert.Rows.sig) → Buf (Elt Bits) ℓ) (g' : Dev Cert.Rows.nD → PrngReg), Pre_Gather m →
    (∀ c : Dev Cert.Gather.nD,
      m' ((c.tc : Thread Cert.Rows.nD Cert.Rows.τ).loc Cert.Rows.main_arg0) = m ((c.tc : Thread Cert.Gather.nD Cert.Gather.τ).loc Cert.Gather.main_arg0)
      ∧ m' ((c.tc : Thread Cert.Rows.nD Cert.Rows.τ).loc Cert.Rows.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v13)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v13) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Rows.defs (F := Bits)) (onTc (τ := Cert.Rows.τ) (Cert.Rows.main (F := Bits))) ⟨m', fun _ => 0, g'⟩ (fun r => ∀ c : Dev Cert.Rows.nD,
          r.2.mem ((c.tc : Thread Cert.Rows.nD Cert.Rows.τ).loc Cert.Rows.main_v1) = v0 c
          ∧ r.2.mem ((c.tc : Thread Cert.Rows.nD Cert.Rows.τ).loc Cert.Rows.main_arg0) = m' ((c.tc : Thread Cert.Rows.nD Cert.Rows.τ).loc Cert.Rows.main_arg0)
          ∧ r.2.mem ((c.tc : Thread Cert.Rows.nD Cert.Rows.τ).loc Cert.Rows.main_arg1) = m' ((c.tc : Thread Cert.Rows.nD Cert.Rows.τ).loc Cert.Rows.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hRowsIdeal : Cert.RowsIdeal.Facts) (hRows : Cert.Rows.Facts) (hPre_x_in_table : Cert.Pre_x_in_table.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_x_in_table := hPre_x_in_table)
    ∧ quiescent_GatherIdeal (hGatherIdeal := hGatherIdeal) (hPre_x_in_table := hPre_x_in_table)
    ∧ quiescent_RowsIdeal (hRowsIdeal := hRowsIdeal)
    ∧ quiescent_RowsIdeal_pre_x_in_table (hRowsIdeal := hRowsIdeal) (hPre_x_in_table := hPre_x_in_table)
    ∧ quiescent_Rows (hRows := hRows) (hPre_x_in_table := hPre_x_in_table)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_RowsIdeal (hGatherIdeal := hGatherIdeal) (hRowsIdeal := hRowsIdeal) (hPre_x_in_table := hPre_x_in_table)
    ∧ bitexact_Gather_Rows (hGather := hGather) (hRows := hRows) (hPre_x_in_table := hPre_x_in_table)
-- ==== Pre_x_in_table.lean ====
abbrev S1024x50 : Shape := ⟨2, ![1024, 50]⟩
abbrev S1000000x64 : Shape := ⟨2, ![1000000, 64]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S1000000x64 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 1000000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S50x1024x64 : Shape := ⟨3, ![50, 1024, 64]⟩
abbrev S512x64 : Shape := ⟨2, ![512, 64]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x512 : Shape := ⟨2, ![1, 512]⟩
abbrev S64x512 : Shape := ⟨2, ![64, 512]⟩
abbrev S128x512 : Shape := ⟨2, ![128, 512]⟩
abbrev S1x128 : Shape := ⟨2, ![1, 128]⟩
abbrev S1024x128 : Shape := ⟨2, ![1024, 128]⟩
abbrev S1x1024x64 : Shape := ⟨3, ![1, 1024, 64]⟩
abbrev S1024x64 : Shape := ⟨2, ![1024, 64]⟩
abbrev S1024x512 : Shape := ⟨2, ![1024, 512]⟩

abbrev nBuf : Space → Nat
  | .hbm => 14
  | .vmem => 10
  | .smem => 0
  | _ => 0

abbrev bufTy : (tb : Table) → Fin (tcTables nBuf tb) → BufTy
  | .hbm, ⟨0, _⟩ => ⟨S50x1024x64, .f32⟩
  | .hbm, ⟨1, _⟩ => ⟨S512x64, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S128x128, .f32⟩
  | .hbm, ⟨6, _⟩ => ⟨S128, .f32⟩
  | .hbm, ⟨7, _⟩ => ⟨S512, .f32⟩
  | .hbm, ⟨8, _⟩ => ⟨S1x512, .f32⟩
  | .hbm, ⟨9, _⟩ => ⟨S64x512, .f32⟩
  | .hbm, ⟨10, _⟩ => ⟨S128x512, .f32⟩
  | .hbm, ⟨11, _⟩ => ⟨S128x128, .f32⟩
  | .hbm, ⟨12, _⟩ => ⟨S1x128, .f32⟩
  | .hbm, ⟨13, _⟩ => ⟨S1024x128, .f32⟩
  | .local _ .vmem, ⟨0, _⟩ => ⟨S1x1024x64, .f32⟩
  | .local _ .vmem, ⟨1, _⟩ => ⟨S1x1024x64, .f32⟩
  | .local _ .vmem, ⟨2, _⟩ => ⟨S64x512, .f32⟩
  | .local _ .vmem, ⟨3, _⟩ => ⟨S128x512, .f32⟩
  | .local _ .vmem, ⟨4, _⟩ => ⟨S1x512, .f32⟩
  | .local _ .vmem, ⟨5, _⟩ => ⟨S128x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S50x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v37 : BitVec 1 := Scalar.cmpi .eq arg0 c49_i32
  let v38 : BitVec 32 := Scalar.extui v37
  let c0_i32_18 : BitVec 32 := 0#32
  let v39 : BitVec 1 := Scalar.cmpi .ne v38 c0_i32_18
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50x1024x64 : Shape := ⟨3, ![50, 1024, 64]⟩
abbrev S512x64 : Shape := ⟨2, ![512, 64]⟩
abbrev S512x128 : Shape := ⟨2, ![512, 128]⟩
abbrev S512 : Shape := ⟨1, ![512]⟩
abbrev S128x128 : Shape := ⟨2, ![128, 128]⟩
abbrev S128 : Shape := ⟨1, ![128]⟩
abbrev S_ : Shape := ⟨0, ![]⟩
abbrev S1024x128 : Shape := ⟨2, ![1024, 128]⟩
abbrev S1x1024x64 : Shape := ⟨3, ![1, 1024, 64]⟩
abbrev S1024x64 : Shape := ⟨2, ![1024, 64]⟩
abbrev S64x512 : Shape := ⟨2, ![64, 512]⟩
abbrev S1024x512 : Shape := ⟨2, ![1024, 512]⟩
abbrev S1x512 : Shape := ⟨2, ![1, 512]⟩
abbrev S128x512 : Shape := ⟨2, ![128, 512]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S50x1024x64, .f32⟩
  | .hbm, ⟨1, _⟩ => ⟨S512x64, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S50x1024x64, .f32⟩
  | .hbm, ⟨13, _⟩ => ⟨S512x64, .f32⟩
  | .hbm, ⟨14, _⟩ => ⟨S512, .f32⟩
  | .hbm, ⟨15, _⟩ => ⟨S512x128, .f32⟩
  | .hbm, ⟨16, _⟩ => ⟨S512, .f32⟩
  | .hbm, ⟨17, _⟩ => ⟨S_, .i32⟩
  | .hbm, ⟨18, _⟩ => ⟨S1024x128, .f32⟩
  | .hbm, ⟨19, _⟩ => ⟨S1024x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x1024x64, .f32⟩
  | .hbm, ⟨25, _⟩ => ⟨S1024x64, .f32⟩
  | .hbm, ⟨26, _⟩ => ⟨S64x512, .f32⟩
  | .hbm, ⟨27, _⟩ => ⟨S1024x512, .f32⟩
  | .hbm, ⟨28, _⟩ => ⟨S1x512, .f32⟩
  | .hbm, ⟨29, _⟩ => ⟨S1024x512, .f32⟩
  | .hbm, ⟨30, _⟩ => ⟨S1024x512, .f32⟩
  | .hbm, ⟨31, _⟩ => ⟨S128x512, .f32⟩
  | .hbm, ⟨32, _⟩ => ⟨S1024x512, .f32⟩
  | .hbm, ⟨33, _⟩ => ⟨S1024x512, .f32⟩
  | .hbm, ⟨34, _⟩ => ⟨S1x512, .f32⟩
  | .hbm, ⟨35, _⟩ => ⟨S1024x512, .f32⟩
  | .hbm, ⟨36, _⟩ => ⟨S1024x512, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S_, .f32⟩
  | .hbm, ⟨44, _⟩ => ⟨S1024x128, .f32⟩
  | .hbm, ⟨45, _⟩ => ⟨S1024x128, .f32⟩
  | .hbm, ⟨46, _⟩ => ⟨S_, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S1024x128, .f32⟩
  | .hbm, ⟨51, _⟩ => ⟨S_, .f32⟩
  | .hbm, ⟨52, _⟩ => ⟨S1024x128, .f32⟩
  | .hbm, ⟨53, _⟩ => ⟨S1024x128, .f32⟩
  | .hbm, ⟨54, _⟩ => ⟨S_, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S1024x128, .f32⟩
  | .hbm, ⟨59, _⟩ => ⟨S1024x128, .f32⟩
  | .hbm, ⟨60, _⟩ => ⟨S_, .f32⟩
  | .hbm, ⟨61, _⟩ => ⟨S1024x128, .f32⟩
  | .hbm, ⟨62, _⟩ => ⟨S1024x128, .f32⟩
  | .hbm, ⟨63, _⟩ => ⟨S_, .f32⟩
  | .hbm, ⟨64, _⟩ => ⟨S1024x128, .f32⟩
  | .hbm, ⟨65, _⟩ => ⟨S1024x128, .f32⟩
  | .hbm, ⟨66, _⟩ => ⟨S1024x128, .f32⟩
  | .hbm, ⟨67, _⟩ => ⟨S1024x128, .f32⟩
  | .hbm, ⟨68, _⟩ => ⟨S1024x128, .f32⟩
  | .hbm, ⟨69, _⟩ => ⟨S1024x128, .f32⟩
  | .hbm, ⟨70, _⟩ => ⟨S1024x128, .f32⟩
  | .hbm, ⟨71, _⟩ => ⟨S_, .i32⟩
  | .hbm, ⟨72, _⟩ => ⟨S_, .i32⟩
  | .hbm, ⟨73, _⟩ => ⟨S128x128, .f32⟩
  | .hbm, ⟨74, _⟩ => ⟨S1024x128, .f32⟩
  | .hbm, ⟨75, _⟩ => ⟨S1x128, .f32⟩
  | .hbm, ⟨76, _⟩ => ⟨S1024x128, .f32⟩
  | .hbm, ⟨77, _⟩ => ⟨S1024x128, .f32⟩
  | _, _ => ⟨S50x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev main_while0c_c_8 : Ref sig .tc := ⟨.hbm, 20, rfl⟩
abbrev main_while0c_v8 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_cst_8 : Ref sig .tc := ⟨.hbm, 43, rfl⟩
abbrev main_while0b_v26 : Ref sig .tc := ⟨.hbm, 44, rfl⟩
abbrev main_while0b_v27 : Ref sig .tc := ⟨.hbm, 45, rfl⟩
abbrev main_while0b_cst_9 : Ref sig .tc := ⟨.hbm, 46, rfl⟩
abbrev main_while0b_v28 : Ref sig .tc := ⟨.hbm, 47, rfl⟩
abbrev main_while0b_v29 : Ref sig .tc := ⟨.hbm, 48, rfl⟩
abbrev main_while0b_v30 : Ref sig .tc := ⟨.hbm, 49, rfl⟩
abbrev main_while0b_v31 : Ref sig .tc := ⟨.hbm, 50, rfl⟩
abbrev main_while0b_cst_10 : Ref sig .tc := ⟨.hbm, 51, rfl⟩
abbrev main_while0b_v32 : Ref sig .tc := ⟨.hbm, 52, rfl⟩
abbrev main_while0b_v33 : Ref sig .tc := ⟨.hbm, 53, rfl⟩
abbrev main_while0b_cst_11 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_cst_12 : Ref sig .tc := ⟨.hbm, 60, rfl⟩
abbrev main_while0b_v39 : Ref sig .tc := ⟨.hbm, 61, rfl⟩
abbrev main_while0b_v40 : Ref sig .tc := ⟨.hbm, 62, rfl⟩
abbrev main_while0b_cst_13 : Ref sig .tc := ⟨.hbm, 63, rfl⟩
abbrev main_while0b_v41 : Ref sig .tc := ⟨.hbm, 64, rfl⟩
abbrev main_while0b_v42 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_v46 : Ref sig .tc := ⟨.hbm, 69, rfl⟩
abbrev main_while0b_v47 : Ref sig .tc := ⟨.hbm, 70, rfl⟩
abbrev main_while0b_c_14 : Ref sig .tc := ⟨.hbm, 71, rfl⟩
abbrev main_while0b_v48 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩

abbrev nD : Nat := 1
abbrev τ : Topo := Topo.v7x

variable {F : FTy → Type} [FloatOps F]

abbrev main_while0_count : Scf.Loop 32 := ⟨0#32, 50#32, 1#32⟩
-- ==== Gather.lean ====
abbrev S1024x50 : Shape := ⟨2, ![1024, 50]⟩
abbrev S1000000x64 : Shape := ⟨2, ![1000000, 64]⟩
abbrev S50x1024 : Shape := ⟨2, ![50, 1024]⟩
abbrev S51200 : Shape := ⟨1, ![51200]⟩
abbrev S51200x1 : Shape := ⟨2, ![51200, 1]⟩
abbrev S_ : Shape := ⟨0, ![]⟩
abbrev S4 : Shape := ⟨1, ![4]⟩
abbrev S1x4 : Shape := ⟨2, ![1, 4]⟩
abbrev S51200x4 : Shape := ⟨2, ![51200, 4]⟩
abbrev S204800 : Shape := ⟨1, ![204800]⟩
abbrev S4000000x16 : Shape := ⟨2, ![4000000, 16]⟩
abbrev S204800x16 : Shape := ⟨2, ![204800, 16]⟩
abbrev S6400 : Shape := ⟨1, ![6400]⟩
abbrev S6400x16 : Shape := ⟨2, ![6400, 16]⟩
abbrev S50x1024x64 : Shape := ⟨3, ![50, 1024, 64]⟩

abbrev nBuf : Table → Nat
  | .hbm => 17
  | .local .scVector .vmem => 2
  | _ => 0

abbrev bufTy : (tb : Table) → Fin (nBuf tb) → BufTy
  | .hbm, ⟨0, _⟩ => ⟨S1024x50, .i32⟩
  | .hbm, ⟨1, _⟩ => ⟨S1000000x64, .f32⟩
  | .hbm, ⟨2, _⟩ => ⟨S50x1024, .i32⟩
  | .hbm, ⟨3, _⟩ => ⟨S51200, .i32⟩
  | .hbm, ⟨4, _⟩ => ⟨S51200x1, .i32⟩
  | .hbm, ⟨5, _⟩ => ⟨S_, .i32⟩
  | .hbm, ⟨6, _⟩ => ⟨S51200x1, .i32⟩
  | .hbm, ⟨7, _⟩ => ⟨S51200x1, .i32⟩
  | .hbm, ⟨8, _⟩ => ⟨S4, .i32⟩
  | .hbm, ⟨9, _⟩ => ⟨S1x4, .i32⟩
  | .hbm, ⟨10, _⟩ => ⟨S51200x4, .i32⟩
  | .hbm, ⟨11, _⟩ => ⟨S51200x4, .i32⟩
  | .hbm, ⟨12, _⟩ => ⟨S51200x4, .i32⟩
  | .hbm, ⟨13, _⟩ => ⟨S204800, .i32⟩
  | .hbm, ⟨14, _⟩ => ⟨S4000000x16, .f32⟩
  | .hbm, ⟨15, _⟩ => ⟨S204800x16, .f32⟩
  | .hbm, ⟨16, _⟩ => ⟨S50x1024x64, .f32⟩
  | .local .scVector .vmem, ⟨0, _⟩ => ⟨S6400, .i32⟩
  | .local .scVector .vmem, ⟨1, _⟩ => ⟨S6400x16, .f32⟩
  | _, _ => ⟨S1024x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v11_scv : Ref sig .scVector := ⟨.hbm, 14, rfl⟩
abbrev main_v10_scv : Ref sig .scVector := ⟨.hbm, 13, rfl⟩
abbrev main_v12_scv : Ref sig .scVector := ⟨.hbm, 15, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Rows.lean ====
abbrev S1024x50 : Shape := ⟨2, ![1024, 50]⟩
abbrev S1000000x64 : Shape := ⟨2, ![1000000, 64]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x64 : Shape := ⟨3, ![1024, 50, 64]⟩
abbrev S50x1024x64 : Shape := ⟨3, ![50, 1024, 64]⟩

abbrev nBuf : Space → Nat
  | .hbm => 26
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1000000x64, .f32⟩
  | .hbm, ⟨2, _⟩ => ⟨S_, .i32⟩
  | .hbm, ⟨3, _⟩ => ⟨S1024x50, .i32⟩
  | .hbm, ⟨4, _⟩ => ⟨S1024x50, .i1⟩
  | .hbm, ⟨5, _⟩ => ⟨S_, .i32⟩
  | .hbm, ⟨6, _⟩ => ⟨S1024x50, .i32⟩
  | .hbm, ⟨7, _⟩ => ⟨S1024x50, .i32⟩
  | .hbm, ⟨8, _⟩ => ⟨S1024x50, .i32⟩
  | .hbm, ⟨9, _⟩ => ⟨S1024x50x1, .i32⟩
  | .hbm, ⟨10, _⟩ => ⟨S1, .i32⟩
  | .hbm, ⟨11, _⟩ => ⟨S_, .i32⟩
  | .hbm, ⟨12, _⟩ => ⟨S1024x50x1, .i32⟩
  | .hbm, ⟨13, _⟩ => ⟨S1024x50x1, .i1⟩
  | .hbm, ⟨14, _⟩ => ⟨S1x1x1, .i32⟩
  | .hbm, ⟨15, _⟩ => ⟨S1024x50x1, .i32⟩
  | .hbm, ⟨16, _⟩ => ⟨S1024x50x1, .i1⟩
  | .hbm, ⟨17, _⟩ => ⟨S1024x50x1, .i1⟩
  | .hbm, ⟨18, _⟩ => ⟨S_, .i1⟩
  | .hbm, ⟨19, _⟩ => ⟨S1024x50, .i1⟩
  | .hbm, ⟨20, _⟩ => ⟨S1024x50x64, .f32⟩
  | .hbm, ⟨21, _⟩ => ⟨S1024x50x64, .i1⟩
  | .hbm, ⟨22, _⟩ => ⟨S_, .f32⟩
  | .hbm, ⟨23, _⟩ => ⟨S1024x50x64, .f32⟩
  | .hbm, ⟨24, _⟩ => ⟨S1024x50x64, .f32⟩
  | .hbm, ⟨25, _⟩ => ⟨S50x1024x64, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Lstm.Cell.lean ====
/-
  One time step of the recurrence, over the extended reals: the values the kernel's body computes from its blocks and
  its carried `h` and `c` are the values of one trip of the reference's loop.

  The two differ in one place. The kernel adds the two matrix products and then the two biases, which the host summed
  beforehand, `(e·W + h·U) + (b_ih + b_hh)`; the reference adds from left to right, `((e·W + b_ih) + h·U) + b_hh`. The gates
  that follow are the same functions of the same numbers: the kernel's `logistic` is the reference's `1 / (1 + exp(-x))`.
-/
module

public import proofs.«01_k».proof.Proof.Gen.KernelIdeal.Skeleton
public import proofs.«01_k».proof.Proof.Gen.ReferenceIdeal.Step
public import Idealize.ShloMosaic.Lib.KernelVsHost
public import Idealize.ShloMosaic.Lib.Pointwise
public import Idealize.ShloMosaic.Lib.IdealHost
public import Idealize.ShloMosaic.PureOps.Ideal

@[expose] public section

set_option maxRecDepth 16384

noncomputable section

namespace Cert.Lstm

open Idealize.ShloMosaic hiding ix1 ix2 eq_ix2
open Idealize.ShloMosaic.ValueIdx Cert.ReferenceIdeal.Step Cert.KernelIdeal.Gen
open Cert.KernelIdeal (S512 S1x512 S1024x512 S1x1024x64 S1024x64 S1024x128 S64x512 S128x512 S128x128 S128 S1x128)

section
variable {α : Type}

/-- A vector of `n` entries that the kernel lays along each of `m` rows (a one-row cast, then a broadcast), read at a row and
    a lane: the vector at the lane. -/
theorem kernelRow_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (l : Fin n) :
    broadcastTo ⟨2, ![m, n]⟩ (shapeCast ⟨2, ![1, n]⟩ x h1) hb (ix2 r l) = x (ix1 l) := by
  have e1 := broadcastTo_apply (shapeCast ⟨2, ![1, n]⟩ x h1) hb (ix2 r l) (ix2 (0 : Fin 1) l) (by
    intro a
    match a with
    | ⟨0, _⟩ => rfl
    | ⟨1, _⟩ =>
      show l.val = if n = 1 then 0 else l.val
      split
      · have := l.isLt; omega
      · rfl)
  exact e1.trans (shapeCast_apply x h1 (ix2 (0 : Fin 1) l) (ix1 l) (by
    rw [Shape.rowMajor_val_two, Shape.rowMajor_val_one]; show l.val = 0 * n + l.val; omega))

/-- The same of the host's two broadcasts, first to one row and then down the rows. -/
theorem hostRow_apply {m n : Nat} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (l : Fin n) :
    broadcastInDim ⟨2, ![m, n]⟩ ![0, 1] h2 (broadcastInDim ⟨2, ![1, n]⟩ ![1] h1 x) (ix2 r l) = x (ix1 l) := by
  rw [broadcastInDim_oneRow_apply]
  exact broadcastInDim_apply ![1] h1 x (ix2 (0 : Fin 1) l) (ix1 l) (by
    intro a
    match a with
    | ⟨0, _⟩ =>
      show l.val = if n = 1 then 0 else l.val
      split
      · have := l.isLt; omega
      · rfl)
end

/-- The gate sums: the kernel's, from the block of embeddings, the transposed weights, the carried `h` and the summed biases,
    are the reference's of its state. -/
theorem gates_eq (j : ℕ) (s : State Ideal) (x : FVec Ideal S1x1024x64 .f32)
    (hx : shapeCast S1024x64 x Cert.KernelIdeal.Gen.shapeCasts_S1x1024x64_S1024x64 = b3 j s)
    (hb : (⟨1, ![512]⟩ : Shape).ShapeCasts ⟨2, ![1, 512]⟩) :
    k0_pay5 (F := Ideal) x (b4 j s) s.main_v2_6 (b9 j s) (shapeCast S1x512 (addf s.main_v2_2 s.main_v2_4 : FVec Ideal S512 .f32) hb)
      = b14 j s := by
  unfold k0_pay5
  simp only [shapeCast_self, hx, matmul_zero_eq_dotGeneral]
  funext i
  obtain ⟨r, l, rfl⟩ : ∃ (r : Fin 1024) (l : Fin 512), i = ix2 r l := ⟨i 0, i 1, eq_ix2 i⟩
  have hk := kernelRow_apply (m := 1024) (addf s.main_v2_2 s.main_v2_4 : FVec Ideal S512 .f32) hb
    Cert.KernelIdeal.Gen.broadcasts_S1x512_S1024x512 r l
  have hi := hostRow_apply s.main_v2_2 Cert.ReferenceIdeal.Gen.bcast_S512_S1x512_1 Cert.ReferenceIdeal.Gen.bcast_S1x512_S1024x512_0_1 r l
  have hh := hostRow_apply s.main_v2_4 Cert.ReferenceIdeal.Gen.bcast_S512_S1x512_1 Cert.ReferenceIdeal.Gen.bcast_S1x512_S1024x512_0_1 r l
  change b7 j s (ix2 r l) = _ at hi
  change b13 j s (ix2 r l) = _ at hh
  have e : ∀ a b p q : EReal, (a + b) + (p + q) = ((a + p) + b) + q := fun a b p q => by
    rw [add_assoc a p b, add_comm p b, ← add_assoc a b p, add_assoc (a + b) p q]
  refine Eq.trans (b := (b5 j s (ix2 r l) + b10 j s (ix2 r l))
    + (s.main_v2_2 (ix1 l) + s.main_v2_4 (ix1 l))) (congrArg _ hk) ?_
  refine (e _ _ _ _).trans ?_
  rw [← hi, ← hh]
  rfl

/-- The new cell state: the kernel's is the reference's. -/
theorem newC_eq (j : ℕ) (s : State Ideal) (x : FVec Ideal S1x1024x64 .f32) (u : FVec Ideal S64x512 .f32) (v : FVec Ideal S128x512 .f32)
    (w : FVec Ideal S1x512 .f32) (hg : k0_pay5 (F := Ideal) x u s.main_v2_6 v w = b14 j s) :
    k0_pay6 (F := Ideal) x u s.main_v2_6 v w s.main_v2_7 = b46 j s := by
  unfold k0_pay6
  rw [hg]
  have one : (FloatOps.ofBits .f32 0x3F800000#32 : Ideal .f32) = 1 := Idealize.ShloMosaic.Ideal.ofBits_one_f32
  funext i
  show Ideal.logistic (b16 j s i) * s.main_v2_7 i + Ideal.logistic (b15 j s i) * Ideal.tanh (b17 j s i)
    = Ideal.div (FloatOps.ofBits .f32 0x3F800000#32 : Ideal .f32) ((FloatOps.ofBits .f32 0x3F800000#32 : Ideal .f32) + Ideal.exp (-(b16 j s i))) * s.main_v2_7 i
      + Ideal.div (FloatOps.ofBits .f32 0x3F800000#32 : Ideal .f32) ((FloatOps.ofBits .f32 0x3F800000#32 : Ideal .f32) + Ideal.exp (-(b15 j s i))) * Ideal.tanh (b17 j s i)
  rw [one]
  rfl

/-- The new hidden state: the kernel's is the reference's. -/
theorem newH_eq (j : ℕ) (s : State Ideal) (x : FVec Ideal S1x1024x64 .f32) (u : FVec Ideal S64x512 .f32) (v : FVec Ideal S128x512 .f32)
    (w : FVec Ideal S1x512 .f32) (hg : k0_pay5 (F := Ideal) x u s.main_v2_6 v w = b14 j s) :
    k0_pay8 (F := Ideal) x u s.main_v2_6 v w s.main_v2_7 = b48 j s := by
  unfold k0_pay8
  rw [newC_eq j s x u v w hg, hg]
  have one : (FloatOps.ofBits .f32 0x3F800000#32 : Ideal .f32) = 1 := Idealize.ShloMosaic.Ideal.ofBits_one_f32
  funext i
  show Ideal.logistic (b18 j s i) * Ideal.tanh (b46 j s i)
    = Ideal.div (FloatOps.ofBits .f32 0x3F800000#32 : Ideal .f32) ((FloatOps.ofBits .f32 0x3F800000#32 : Ideal .f32) + Ideal.exp (-(b18 j s i))) * Ideal.tanh (b46 j s i)
  rw [one]
  rfl

/-- The last projection: the kernel's, from the hidden state, the transposed weights and the bias as one row, is the reference's. -/
theorem project_eq (s : State Ideal) (W : FVec Ideal S128x128 .f32) (b : FVec Ideal S128 .f32)
    (ht : S128x128.Transposes [1, 0] S128x128) (hb : (⟨1, ![128]⟩ : Shape).ShapeCasts ⟨2, ![1, 128]⟩) :
    k0_pay2 (F := Ideal) s.main_v2_6 (transpose S128x128 [1, 0] W ht) (shapeCast S1x128 b hb) = R_main_v7 s W b := by
  unfold k0_pay2 R_main_v7
  simp only [shapeCast_self, matmul_zero_eq_dotGeneral]
  funext i
  obtain ⟨r, l, rfl⟩ : ∃ (r : Fin 1024) (l : Fin 128), i = ix2 r l := ⟨i 0, i 1, eq_ix2 i⟩
  have hk := kernelRow_apply (m := 1024) b hb Cert.KernelIdeal.Gen.broadcasts_S1x128_S1024x128 r l
  have hh := hostRow_apply b Cert.ReferenceIdeal.Gen.bcast_S128_S1x128_1 Cert.ReferenceIdeal.Gen.bcast_S1x128_S1024x128_0_1 r l
  refine (congrArg _ hk).trans ?_
  rw [← hh]
  rfl

end Cert.Lstm

end
-- ==== Proof.Lstm.Point.lean ====
/-
  What one grid point of the kernel leaves: in the scratch that carries `h`, in the scratch that carries `c`, and, at the
  last point, in the output's block. Each is the body's own value of the point's blocks and of what the point before left
  in the two scratches; at the first point the body has just stored zeros there.
-/
module

public import proofs.«01_k».proof.Proof.Gen.KernelIdeal.Value
public import Idealize.ShloMosaic.Lib.Tactic
public import Idealize.ShloMosaic.Lib.StableHlo.RunRead

@[expose] public section

set_option maxRecDepth 16384

noncomputable section

namespace Cert.Lstm

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- What the output's block, the `h` scratch and the `c` scratch hold after a point. -/
abbrev Held (F : FTy → Type) [FloatOps F] := Vec F S1024x128 .f32 × Vec F S1024x128 .f32 × Vec F S1024x128 .f32

/-- The new `h` of point `t`, from an `h` and a `c`. -/
abbrev hAt (c : Dev nD) (t : Fin cfg0.N) (h k : Vec F S1024x128 .f32) : FVec F S1024x128 .f32 :=
  k0_pay8 (iblk m c 0 t) (iblk m c 1 t) h (iblk m c 2 t) (iblk m c 3 t) k

/-- The new `c` of point `t`, from an `h` and a `c`. -/
abbrev cAt (c : Dev nD) (t : Fin cfg0.N) (h k : Vec F S1024x128 .f32) : FVec F S1024x128 .f32 :=
  k0_pay6 (iblk m c 0 t) (iblk m c 1 t) h (iblk m c 2 t) (iblk m c 3 t) k

/-- A scratch buffer made to hold an array, read whole, is the array. -/
theorem scratch_h (X : Vec F S1024x128 .f32) :
    View.read (Elt F) (View.whole cc0_scratch0) ((Memref.isWhole_whole cc0_scratch0 : (scM0_0 : Memref sig .tc .vmem S1024x128 .f32).IsWhole).unread X) = X :=
  (Memref.isWhole_whole cc0_scratch0 : (scM0_0 : Memref sig .tc .vmem S1024x128 .f32).IsWhole).read_unread X
theorem scratch_c (X : Vec F S1024x128 .f32) :
    View.read (Elt F) (View.whole cc0_scratch1) ((Memref.isWhole_whole cc0_scratch1 : (scM0_1 : Memref sig .tc .vmem S1024x128 .f32).IsWhole).unread X) = X :=
  (Memref.isWhole_whole cc0_scratch1 : (scM0_1 : Memref sig .tc .vmem S1024x128 .f32).IsWhole).read_unread X

/-- A middle point leaves the new `h` of what it found. -/
theorem mid_h (c : Dev nD) (t : Fin cfg0.N) (acc : Held F) (h0 : ¬t.val % 50 = 0) (h1 : ¬t.val % 50 = 49) :
    (stAt0 m c t.val t.isLt acc).2.1 = hAt m c t acc.2.1 acc.2.2 := by
  rw [stAt0_B m c t acc h0 h1]
  dsimp only
  unfold sout0_B_0
  rw [View.read_writes_eq_canon _ _ _ (fun _ => scover0_B_0 ..)]
  unfold kernelRun0_B
  dsimp only
  rw [View.canon_unit_zero zero2]
  unfold k0_pay1
  sl_unfold_words
  simp only [View.readAt_eq_ld, Memref.IsWhole.read_unread, hs0_0, hs0_1, hs0_2, hs0_3, scratch_h, scratch_c,
    View.ld_unit_zero (S := S1024x128) zero2, View.ld_unit_zero (S := S1x1024x64) zero3, View.ld_unit_zero (S := S64x512) zero2,
    View.ld_unit_zero (S := S128x512) zero2, View.ld_unit_zero (S := S1x512) zero2, shapeCast_self]

/-- A middle point leaves the new `c` of what it found. -/
theorem mid_c (c : Dev nD) (t : Fin cfg0.N) (acc : Held F) (h0 : ¬t.val % 50 = 0) (h1 : ¬t.val % 50 = 49) :
    (stAt0 m c t.val t.isLt acc).2.2 = cAt m c t acc.2.1 acc.2.2 := by
  rw [stAt0_B m c t acc h0 h1]
  dsimp only
  unfold sout0_B_1
  rw [View.read_writes_eq_canon _ _ _ (fun _ => scover0_B_1 ..)]
  unfold kernelRun0_B
  dsimp only
  rw [View.canon_unit_zero zero2]
  unfold k0_pay7
  sl_unfold_words
  simp only [View.readAt_eq_ld, Memref.IsWhole.read_unread, hs0_0, hs0_1, hs0_2, hs0_3, scratch_h, scratch_c,
    View.ld_unit_zero (S := S1024x128) zero2, View.ld_unit_zero (S := S1x1024x64) zero3, View.ld_unit_zero (S := S64x512) zero2,
    View.ld_unit_zero (S := S128x512) zero2, View.ld_unit_zero (S := S1x512) zero2, shapeCast_self]

/-- The first point leaves the new `h` of zeros. -/
theorem first_h (c : Dev nD) (t : Fin cfg0.N) (acc : Held F) (h0 : t.val % 50 = 0) (h1 : ¬t.val % 50 = 49) :
    (stAt0 m c t.val t.isLt acc).2.1 = hAt m c t k0_pay3 k0_pay4 := by
  rw [stAt0_A m c t acc h0 h1]
  dsimp only
  unfold sout0_A_0
  rw [View.read_writes_eq_canon _ _ _ (fun _ => scover0_A_0 ..)]
  unfold kernelRun0_A
  dsimp only
  sl_unfold_words
  rw [View.canon_cons_unit_zero (S := S1024x128) zero2]
  unfold k0_pay1
  simp only [View.readAt_eq_ld, Memref.IsWhole.read_unread, hs0_0, hs0_1, hs0_2, hs0_3,
    View.ld_unit_zero (S := S1024x128) zero2, View.ld_unit_zero (S := S1x1024x64) zero3, View.ld_unit_zero (S := S64x512) zero2,
    View.ld_unit_zero (S := S128x512) zero2, View.ld_unit_zero (S := S1x512) zero2,
    View.readCov_unit_zero (S := S1024x128) _ zero2, shapeCast_self]

/-- The first point leaves the new `c` of zeros. -/
theorem first_c (c : Dev nD) (t : Fin cfg0.N) (acc : Held F) (h0 : t.val % 50 = 0) (h1 : ¬t.val % 50 = 49) :
    (stAt0 m c t.val t.isLt acc).2.2 = cAt m c t k0_pay3 k0_pay4 := by
  rw [stAt0_A m c t acc h0 h1]
  dsimp only
  unfold sout0_A_1
  rw [View.read_writes_eq_canon _ _ _ (fun _ => scover0_A_1 ..)]
  unfold kernelRun0_A
  dsimp only
  sl_unfold_words
  rw [View.canon_cons_unit_zero (S := S1024x128) zero2]
  unfold k0_pay7
  simp only [View.readAt_eq_ld, Memref.IsWhole.read_unread, hs0_0, hs0_1, hs0_2, hs0_3,
    View.ld_unit_zero (S := S1024x128) zero2, View.ld_unit_zero (S := S1x1024x64) zero3, View.ld_unit_zero (S := S64x512) zero2,
    View.ld_unit_zero (S := S128x512) zero2, View.ld_unit_zero (S := S1x512) zero2,
    View.readCov_unit_zero (S := S1024x128) _ zero2, shapeCast_self]

/-- The last point leaves, in the output's block, the projection of its new `h`. -/
theorem last_out (c : Dev nD) (t : Fin cfg0.N) (acc : Held F) (h0 : ¬t.val % 50 = 0) (h1 : t.val % 50 = 49) :
    (stAt0 m c t.val t.isLt acc).1 = k0_pay2 (hAt m c t acc.2.1 acc.2.2) (iblk m c 4 t) (iblk m c 5 t) := by
  rw [stAt0_C m c t acc h0 h1]
  dsimp only
  unfold out0_C_6
  rw [View.read_writes_eq_canon _ _ _ (fun _ => cover0_C_6 ..)]
  unfold kernelRun0_C
  dsimp only
  rw [View.canon_unit_zero zero2]
  sl_unfold_words
  simp only [View.readAt_eq_ld, Memref.IsWhole.read_unread, hs0_0, hs0_1, hs0_2, hs0_3, hs0_4, hs0_5, scratch_h, scratch_c,
    View.ld_unit_zero (S := S1024x128) zero2, View.ld_unit_zero (S := S1x1024x64) zero3, View.ld_unit_zero (S := S64x512) zero2,
    View.ld_unit_zero (S := S128x512) zero2, View.ld_unit_zero (S := S1x512) zero2,
    View.ld_unit_zero (S := S128x128) zero2, View.ld_unit_zero (S := S1x128) zero2, shapeCast_self]

end Cert.Lstm

end
-- ==== Proof.Lstm.Blocks.lean ====
/-
  The blocks that the kernel's input windows cut out of their arrays, in terms of the arguments: the transposed weights
  and the summed biases, which the host lays out before the launch, come whole at every point; of the embeddings point `t`
  gets the rows of time step `t`.
-/
module

public import proofs.«01_k».proof.Proof.Lstm.Cell
public import proofs.«01_k».proof.Proof.Lstm.Point

@[expose] public section

set_option maxRecDepth 16384

noncomputable section

namespace Cert.Lstm

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-! ## The arrays the host lays out -/

/-- The transposed input weights. -/
theorem V_wih : V m c main_v2 = transpose S64x512 [1, 0] (m ((c : Thread nD τ).loc main_arg1)) transposes_S512x64_S64x512_1_0 := by
  unfold V hostOps0; after_reads_simp <;> rfl

/-- The transposed recurrent weights. -/
theorem V_whh : V m c main_v3 = transpose S128x512 [1, 0] (m ((c : Thread nD τ).loc main_arg2)) transposes_S512x128_S128x512_1_0 := by
  unfold V hostOps0; after_reads_simp <;> rfl

/-- The sum of the two biases, as one row. -/
theorem V_bias : V m c main_v1 = shapeCast S1x512 (addf (m ((c : Thread nD τ).loc main_arg3)) (m ((c : Thread nD τ).loc main_arg4)) : FVec F S512 .f32)
    shapeCasts_S512_S1x512 := by
  unfold V hostOps0; after_reads_simp <;> rfl

/-- The transposed weights of the projection. -/
theorem V_wfc : V m c main_v4 = transpose S128x128 [1, 0] (m ((c : Thread nD τ).loc main_arg5)) transposes_S128x128_S128x128_1_0 := by
  unfold V hostOps0; after_reads_simp <;> rfl

/-- The bias of the projection, as one row. -/
theorem V_bfc : V m c main_v5 = shapeCast S1x128 (m ((c : Thread nD τ).loc main_arg6) : FVec F S128 .f32) shapeCasts_S128_S1x128 := by
  unfold V hostOps0; after_reads_simp <;> rfl

/-! ## The windows' block indices, decided over the grid -/

theorem at0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)

/-! ## The blocks -/

/-- Point `t`'s block of the embeddings holds the rows of time step `t`. -/
theorem block_e (t : Fin cfg0.N) (u : Fin 50) (hu : u.val = t.val) (r : Fin 1024) (k : Fin 64) :
    (iblk m c 0 t : Vec F S1x1024x64 .f32) (ValueIdx.ix3 0 r k) = m ((c : Thread nD τ).loc main_arg0) (ValueIdx.ix3 u r k) := by
  obtain ⟨e0, e1, e2⟩ := at0 t
  unfold iblk
  rw [View.read_apply]
  show V m c main_arg0 _ = _
  rw [V_main_arg0]
  congr 1
  funext a; apply Fin.ext
  match a with
  | ⟨0, _⟩ => show win0_0.index t (0 : Fin 3) * 1 + 1 * 0 = u.val; omega
  | ⟨1, _⟩ => show win0_0.index t (1 : Fin 3) * 1024 + 1 * r.val = r.val; omega
  | ⟨2, _⟩ => show win0_0.index t (2 : Fin 3) * 64 + 1 * k.val = k.val; omega

theorem block_wih (t : Fin cfg0.N) : iblk m c 1 t = V m c main_v2 := by
  obtain ⟨e0, e1⟩ := at1 t
  funext j; show V m c main_v2 (((cfg0.win 1).blk t).view.emb j) = V m c main_v2 j
  congr 1; funext a; apply Fin.ext
  match a with
  | ⟨0, _⟩ => show win0_1.index t (0 : Fin 2) * 64 + 1 * (j 0).val = (j 0).val; omega
  | ⟨1, _⟩ => show win0_1.index t (1 : Fin 2) * 512 + 1 * (j 1).val = (j 1).val; omega

theorem block_whh (t : Fin cfg0.N) : iblk m c 2 t = V m c main_v3 := by
  obtain ⟨e0, e1⟩ := at2 t
  funext j; show V m c main_v3 (((cfg0.win 2).blk t).view.emb j) = V m c main_v3 j
  congr 1; funext a; apply Fin.ext
  match a with
  | ⟨0, _⟩ => show win0_2.index t (0 : Fin 2) * 128 + 1 * (j 0).val = (j 0).val; omega
  | ⟨1, _⟩ => show win0_2.index t (1 : Fin 2) * 512 + 1 * (j 1).val = (j 1).val; omega

theorem block_bias (t : Fin cfg0.N) : iblk m c 3 t = V m c main_v1 := by
  obtain ⟨e0, e1⟩ := at3 t
  funext j; show V m c main_v1 (((cfg0.win 3).blk t).view.emb j) = V m c main_v1 j
  congr 1; funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

theorem block_wfc (t : Fin cfg0.N) : iblk m c 4 t = V m c main_v4 := by
  obtain ⟨e0, e1⟩ := at4 t
  funext j; show V m c main_v4 (((cfg0.win 4).blk t).view.emb j) = V m c main_v4 j
  congr 1; funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem block_bfc (t : Fin cfg0.N) : iblk m c 5 t = V m c main_v5 := by
  obtain ⟨e0, e1⟩ := at5 t
  funext j; show V m c main_v5 (((cfg0.win 5).blk t).view.emb j) = V m c main_v5 j
  congr 1; funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

end Cert.Lstm

end
-- ==== Proof.Lstm.Equation.lean ====
/-
  The kernel's result is the reference's, over the extended reals. By induction on the grid point, the two scratches hold
  after point `n` the `h` and the `c` of the reference's loop after trip `n` (one step: `gates_eq`, `newH_eq`, `newC_eq`);
  at the last point the kernel projects the `h` it has just computed, which is what the reference does after its loop.
-/
module

public import proofs.«01_k».proof.Proof.Lstm.Blocks
public import proofs.«01_k».proof.Proof.Gen.ReferenceIdeal.StepRun
public import proofs.«01_k».proof.Defs
public import Idealize.ShloMosaic.Lib.Quiescent

@[expose] public section

set_option maxRecDepth 16384

noncomputable section

namespace Cert.Lstm

open Cert.KernelIdeal Cert.KernelIdeal.Gen Cert.KernelIdeal.Value Idealize.ShloMosaic.TcCoe Idealize.SL.Sem
open Idealize.ShloMosaic hiding ix1 ix2 ix3 eq_ix2
open Idealize.ShloMosaic.ValueIdx
open Cert.ReferenceIdeal.Step (State b3 b4 b9 b14 b46 b48 init step R_main_v7)

/-! ## The reference's states -/

/-- The reference's loop: its first state, then trip by trip. -/
def states (s : State Ideal) : ℕ → State Ideal
  | 0 => s
  | n + 1 => step n (states s n)

/-- No trip changes the embeddings, the weights or the biases. -/
theorem states_const (s : State Ideal) : ∀ n, (states s n).main_v2_0 = s.main_v2_0 ∧ (states s n).main_v2_1 = s.main_v2_1
    ∧ (states s n).main_v2_2 = s.main_v2_2 ∧ (states s n).main_v2_3 = s.main_v2_3 ∧ (states s n).main_v2_4 = s.main_v2_4
  | 0 => ⟨rfl, rfl, rfl, rfl, rfl⟩
  | n + 1 => states_const s n

/-- Trip `j` reads the rows of time step `j`. -/
theorem row_start : ∀ j : Fin 50, (min (max (BitVec.ofNat 32 j.val).toInt 0) ((50 - 1 : Nat) : Int)).toNat = j.val := by decide

theorem b3_apply (j : Fin 50) (s : State Ideal) (r : Fin 1024) (k : Fin 64) : b3 j.val s (ix2 r k) = s.main_v2_0 (ix3 j r k) := by
  unfold b3
  refine (shapeCast_apply _ _ (ix2 r k) (ix3 (0 : Fin 1) r k) ?_).trans ?_
  · rw [Shape.rowMajor_val_three, Shape.rowMajor_val_two]; show (0 * 1024 + r.val) * 64 + k.val = r.val * 64 + k.val; omega
  · unfold Cert.ReferenceIdeal.Step.b2 Host.dynamicSlice
    refine congrArg s.main_v2_0 (funext fun a => Fin.ext ?_)
    match a with
    | ⟨0, _⟩ =>
      show (min (max (BitVec.ofNat 32 j.val).toInt 0) ((50 - 1 : Nat) : Int)).toNat + 0 = j.val
      rw [row_start]; rfl
    | ⟨1, _⟩ => show (min (max (BitVec.toInt (0#32 : BitVec 32)) 0) ((1024 - 1024 : Nat) : Int)).toNat + r.val = r.val; simp
    | ⟨2, _⟩ => show (min (max (BitVec.toInt (0#32 : BitVec 32)) 0) ((64 - 64 : Nat) : Int)).toNat + k.val = k.val; simp

/-! ## The induction -/

variable (m : (ℓ : Loc nD τ sig) → Buf (Elt Ideal) ℓ) (c : Dev nD)

/-- The reference's first state, of the kernel's arguments. -/
def start : State Ideal :=
  init (m ((c : Thread nD τ).loc main_arg0)) (m ((c : Thread nD τ).loc main_arg1)) (m ((c : Thread nD τ).loc main_arg3))
    (m ((c : Thread nD τ).loc main_arg2)) (m ((c : Thread nD τ).loc main_arg4))

/-- The gate sums of point `n` are those of trip `n`. -/
theorem point_gates (n : ℕ) (hn : n < cfg0.N) :
    k0_pay5 (F := Ideal) (iblk m c 0 ⟨n, hn⟩) (iblk m c 1 ⟨n, hn⟩) (states (start m c) n).main_v2_6 (iblk m c 2 ⟨n, hn⟩) (iblk m c 3 ⟨n, hn⟩)
      = b14 n (states (start m c) n) := by
  have hN : n < 50 := lt_of_lt_of_eq hn N_0
  obtain ⟨k0, k1, k2, k3, k4⟩ := states_const (start m c) n
  have e1 : iblk m c 1 ⟨n, hn⟩ = b4 n (states (start m c) n) := by
    rw [block_wih, V_wih]; unfold b4; rw [k1]; rfl
  have e2 : iblk m c 2 ⟨n, hn⟩ = b9 n (states (start m c) n) := by
    rw [block_whh, V_whh]; unfold b9; rw [k3]; rfl
  have e3 : iblk m c 3 ⟨n, hn⟩
      = shapeCast S1x512 (addf (states (start m c) n).main_v2_2 (states (start m c) n).main_v2_4 : FVec Ideal S512 .f32) shapeCasts_S512_S1x512 := by
    rw [block_bias, V_bias, k2, k4]; rfl
  have e0 : shapeCast S1024x64 (iblk m c 0 ⟨n, hn⟩ : FVec Ideal S1x1024x64 .f32) shapeCasts_S1x1024x64_S1024x64 = b3 n (states (start m c) n) := by
    funext i
    obtain ⟨r, k, rfl⟩ : ∃ (r : Fin 1024) (k : Fin 64), i = ix2 r k := ⟨i 0, i 1, eq_ix2 i⟩
    refine (shapeCast_apply _ _ (ix2 r k) (ix3 (0 : Fin 1) r k) ?_).trans ?_
    · rw [Shape.rowMajor_val_three, Shape.rowMajor_val_two]; show (0 * 1024 + r.val) * 64 + k.val = r.val * 64 + k.val; omega
    · refine (block_e m c ⟨n, hn⟩ ⟨n, hN⟩ rfl r k).trans ?_
      refine Eq.trans ?_ (b3_apply ⟨n, hN⟩ (states (start m c) n) r k).symm
      rw [k0]; rfl
  rw [e1, e2, e3]
  exact gates_eq n (states (start m c) n) _ e0 _

/-- One point, from the reference's `h` and `c` before trip `n`: those after it. -/
theorem point_h (n : ℕ) (hn : n < cfg0.N) :
    hAt m c ⟨n, hn⟩ (states (start m c) n).main_v2_6 (states (start m c) n).main_v2_7 = (states (start m c) (n + 1)).main_v2_6 :=
  newH_eq n _ _ _ _ _ (point_gates m c n hn)

theorem point_c (n : ℕ) (hn : n < cfg0.N) :
    cAt m c ⟨n, hn⟩ (states (start m c) n).main_v2_6 (states (start m c) n).main_v2_7 = (states (start m c) (n + 1)).main_v2_7 :=
  newC_eq n _ _ _ _ _ (point_gates m c n hn)

/-- The zeros that the first point stores are the reference's first `h` and `c`. -/
theorem start_h : (k0_pay3 : FVec Ideal S1024x128 .f32) = (states (start m c) 0).main_v2_6 := by
  unfold k0_pay3; simp only [shapeCast_self]; rfl
theorem start_c : (k0_pay4 : FVec Ideal S1024x128 .f32) = (states (start m c) 0).main_v2_7 := by
  unfold k0_pay4; simp only [shapeCast_self]; rfl

/-- After any point but the last the scratches hold the reference's `h` and `c`. -/
theorem carried : ∀ (n : ℕ) (hn : n < cfg0.N), n < 49 →
    (outsAt0 m c n hn).2.1 = (states (start m c) (n + 1)).main_v2_6 ∧ (outsAt0 m c n hn).2.2 = (states (start m c) (n + 1)).main_v2_7
  | 0, hn, _ => by
    rw [outsAt0_zero]
    rw [first_h m c ⟨0, hn⟩ _ (Nat.zero_mod _) (by dsimp only; omega), first_c m c ⟨0, hn⟩ _ (Nat.zero_mod _) (by dsimp only; omega), start_h m c, start_c m c]
    exact ⟨point_h m c 0 hn, point_c m c 0 hn⟩
  | n + 1, hn, h49 => by
    obtain ⟨ih, ic⟩ := carried n (Nat.lt_of_succ_lt hn) (by omega)
    have h0 : ¬(⟨n + 1, hn⟩ : Fin cfg0.N).val % 50 = 0 := by dsimp only; omega
    have h1 : ¬(⟨n + 1, hn⟩ : Fin cfg0.N).val % 50 = 49 := by dsimp only; omega
    rw [outsAt0_succ]
    rw [mid_h m c ⟨n + 1, hn⟩ _ h0 h1, mid_c m c ⟨n + 1, hn⟩ _ h0 h1, ih, ic]
    exact ⟨point_h m c (n + 1) hn, point_c m c (n + 1) hn⟩

/-- The kernel's result array ends at the reference's result. -/
theorem result_eq : G6 m c = R_main_v7 (states (start m c) 50) (m ((c : Thread nD τ).loc main_arg5)) (m ((c : Thread nD τ).loc main_arg6)) := by
  have hn : 49 < cfg0.N := lt_of_lt_of_eq (by decide) N_0.symm
  obtain ⟨ih, ic⟩ := carried m c 48 (Nat.lt_of_succ_lt hn) (by decide)
  have e : G6 m c = (outsAt0 m c 49 hn).1 := by rw [G6_last, outsAt0_sweep]
  rw [e, outsAt0_succ m c 48 hn, last_out m c ⟨49, hn⟩ _ (by dsimp only; omega) (by dsimp only), ih, ic, point_h m c 49 hn, block_wfc, block_bfc, V_wfc, V_bfc]
  exact project_eq _ _ _ _ _

/-! ## The claims -/

/-- `Cert.algebraic_KernelIdeal_ReferenceIdeal`: the recurrence over the whole sequence and its last projection. -/
theorem algebraic : Cert.algebraic_KernelIdeal_ReferenceIdeal := by
  intro m ρ m' ρ' _ hagree
  refine ⟨fun c => G6 m c, Cert.KernelIdeal.Value.run m ρ, ?_⟩
  have hrun := Cert.ReferenceIdeal.StepRun.run_iter (F := Ideal) m' ρ'
    (fun c => states (Cert.ReferenceIdeal.StepRun.initState m' c)) (fun c => rfl) (fun c n => rfl)
  refine (θ_run _ _ _).mono (fun _ h c => ⟨(h c).1.trans ?_, (h c).2⟩) hrun
  obtain ⟨a0, a1, a2, a3, a4, a5, a6⟩ := hagree c
  have es : Cert.ReferenceIdeal.StepRun.initState m' c = start m c := by
    unfold Cert.ReferenceIdeal.StepRun.initState start
    rw [a0, a1, a2, a3, a4]
  exact (by rw [es, a5, a6] : _ = _).trans (result_eq m c).symm

/-- `Cert.quiescent_ReferenceIdeal`: the reference runs and leaves its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Lstm

end
-- ==== Proof.Gather.Setup.lean ====
/-
  The row gather as the SparseCore launch theorem sees it. Thirty-two tasks, one on each vector subcore of the two
  SparseCores; the task on core `c` and subcore `i` is task `2 i + c`, and it takes the `2 i + c`-th thirty-second of the
  row list and of the output, and a thirty-second share of the table, which all of them read at once.

  Everything here is stated for a row list `I` and a table `X` the call starts from: what the host operations before the
  call leave there is put in later.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.Gather
public import proofs.«01_k».proof.Proof.Gen.Gather.Skeleton

@[expose] public section

noncomputable section

namespace Cert.TakeRows

open Cert.Gather Cert.Gather.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The value: which row of the table each row of the output is -/

/-- The table row that entry `r` of the list names. A list entry that is in range names the row of its own number. -/
def rowOf (I : S204800.Idx → BitVec 32) (r : Fin 204800) : Fin 4000000 :=
  ⟨(I (ix1 r)).toNat % 4000000, Nat.mod_lt _ (by omega)⟩

/-- The gathered rows: row `r` of the output is the table's row named by entry `r` of the list. -/
def gathered {α : Type} (I : S204800.Idx → BitVec 32) (X : S4000000x16.Idx → α) : S204800x16.Idx → α :=
  fun y => X (ix2 (rowOf I (y 0)) (y 1))

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays of the call, and each task's part of them -/

abbrev xLoc (d : Dev nD) : Loc nD τ sig := (SparseCore.T d).loc main_v11
abbrev iLoc (d : Dev nD) : Loc nD τ sig := (SparseCore.T d).loc main_v10
abbrev oLoc (d : Dev nD) : Loc nD τ sig := (SparseCore.T d).loc main_v12

local notation "xV" => (Memref.whole Cert.Gather.main_v11_scv : Memref Cert.Gather.sig Kind.scVector Space.hbm Cert.Gather.S4000000x16 EltTy.f32)
local notation "iV" => (Memref.whole Cert.Gather.main_v10_scv : Memref Cert.Gather.sig Kind.scVector Space.hbm Cert.Gather.S204800 EltTy.i32)
local notation "oV" => (Memref.whole Cert.Gather.main_v12_scv : Memref Cert.Gather.sig Kind.scVector Space.hbm Cert.Gather.S204800x16 EltTy.f32)

/-- The task on core `c`, subcore `i`. -/
def task (c : Fin 2) (i : Fin 16) : Fin 32 := ⟨c.val + 2 * i.val, by omega⟩

/-- Cores and subcores number the tasks. -/
def taskEquiv : Fin 2 × Fin 16 ≃ Fin 32 := (Equiv.prodComm _ _).trans finProdFinEquiv

theorem taskEquiv_apply (c : Fin 2) (i : Fin 16) : taskEquiv (c, i) = task c i := Fin.ext rfl

theorem idiv : 32 ∣ S204800.size 0 := ⟨6400, rfl⟩
theorem odiv : 32 ∣ S204800x16.size 0 := ⟨6400, rfl⟩
abbrev iPart (w : Fin 32) : Rect S204800 := Rect.part (s := S204800) (a₀ := 0) idiv w
abbrev oPart (w : Fin 32) : Rect S204800x16 := Rect.part (s := S204800x16) (a₀ := 0) odiv w
abbrev iSet (w : Fin 32) : Finset S204800.Idx := ((iV).view.slice (iPart w)).set
abbrev oSet (w : Fin 32) : Finset S204800x16.Idx := ((oV).view.slice (oPart w)).set
/-- Task `w`'s share of the table. -/
abbrev xq (w : Fin 32) : PosShare TreeShare := pieceOf fullShare 32 (by omega) w

variable (I : (d : Dev nD) → Buf (Elt F) (iLoc d)) (X : (d : Dev nD) → Buf (Elt F) (xLoc d)) (O₀ : (d : Dev nD) → Buf (Elt F) (oLoc d))

/-- What the call leaves in the output of device `d`. -/
abbrev gath (d : Dev nD) : Buf (Elt F) (oLoc d) := gathered (I d) (X d)

/-! ## What the handshakes carry -/

/-- What task `w` holds: its part of the list, its share of the table, its part of the output at `f`. -/
abbrev part (d : Dev nD) (w : Fin 32) (f : Buf (Elt F) (oLoc d)) : sProp 𝕄 :=
  iprop((iLoc d ↦[iSet w]{fullShare} I d) ∗ (xLoc d ↦{xq w} X d) ∗ oLoc d ↦[oSet w]{fullShare} f)

/-- Each task takes its part with the output at what it was and brings it back with the output at the gathered rows;
    each core takes and brings back what its sixteen tasks do. -/
def P : (K (F := F)).Pay (nD := nD) (Val := Elt F) (Name := ℕ) (U := UU) where
  st := fun q d c => match q with | 0 => bigSep Finset.univ fun i : Fin 16 => part I X d (task c i) (O₀ d)
  dn := fun q d c => match q with | 0 => bigSep Finset.univ fun i : Fin 16 => part I X d (task c i) (gath I X d)
  go := fun q d c i => match q with | 0 => part I X d (task c i) (O₀ d)
  td := fun q d c i => match q with | 0 => part I X d (task c i) (gath I X d)
  x := fun _ _ => iprop(emp)

instance P_storable : (P I X O₀).IsStorable where
  st q d c := match q with
    | 0 => (inferInstance : BI.Storable (upEmb : UEmb _ 𝕄) (bigSep Finset.univ fun i : Fin 16 => part I X d (task c i) (O₀ d)))
  dn q d c := match q with
    | 0 => (inferInstance : BI.Storable (upEmb : UEmb _ 𝕄) (bigSep Finset.univ fun i : Fin 16 => part I X d (task c i) (gath I X d)))
  go q d c i := match q with
    | 0 => (inferInstance : BI.Storable (upEmb : UEmb _ 𝕄) (part I X d (task c i) (O₀ d)))
  td q d c i := match q with
    | 0 => (inferInstance : BI.Storable (upEmb : UEmb _ 𝕄) (part I X d (task c i) (gath I X d)))

/-- What the proof asks of the list: every entry is a row of the table. -/
def InRange : Prop := ∀ (d : Dev nD) (j : S204800.Idx), (I d j : BitVec 32).toNat < 4000000

/-! ## The arrays split into the tasks' parts, and back -/

theorem iSet_eq (w : Fin 32) : iSet w = (iPart w).set := View.set_slice_whole _ _
theorem oSet_eq (w : Fin 32) : oSet w = (oPart w).set := View.set_slice_whole _ _

theorem iSet_disjoint : ∀ v ∈ (Finset.univ : Finset (Fin 32)), ∀ w ∈ (Finset.univ : Finset (Fin 32)), v ≠ w → Disjoint (iSet v) (iSet w) :=
  fun v _ w _ h => by rw [iSet_eq, iSet_eq]; exact Rect.part_disjoint idiv h
theorem oSet_disjoint : ∀ v ∈ (Finset.univ : Finset (Fin 32)), ∀ w ∈ (Finset.univ : Finset (Fin 32)), v ≠ w → Disjoint (oSet v) (oSet w) :=
  fun v _ w _ h => by rw [oSet_eq, oSet_eq]; exact Rect.part_disjoint odiv h
theorem iSet_cover : (Finset.univ : Finset (Fin 32)).biUnion iSet = Finset.univ :=
  (Finset.biUnion_congr rfl fun w _ => iSet_eq w).trans (Rect.biUnion_part idiv)
theorem oSet_cover : (Finset.univ : Finset (Fin 32)).biUnion oSet = Finset.univ :=
  (Finset.biUnion_congr rfl fun w _ => oSet_eq w).trans (Rect.biUnion_part odiv)

theorem iSplit (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_disjoint, iSet_cover]; try rfl
theorem oSplit (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint, oSet_cover]; try rfl

/-- The three arrays, the output at `f`, are the thirty-two tasks' parts of them, core by core. -/
theorem arrays_split (d : Dev nD) (f : Buf (Elt F) (oLoc d)) :
    (iprop((iLoc d ↦{fullShare} I d) ∗ (xLoc d ↦{fullShare} X d) ∗ oLoc d ↦{fullShare} f) : sProp 𝕄)
      = bigSep Finset.univ fun c : Fin 2 => bigSep Finset.univ fun i : Fin 16 => part I X d (task c i) f := by
  rw [iSplit, oSplit, pointsTo_piecesOf Finset.univ (X d) (o := 32) (by omega) fullShare, ← bigSep_sep', ← bigSep_sep',
    bigSep_univ_equiv taskEquiv, ← Finset.univ_product_univ, SparseCore.bigSep_product]
  simp only [taskEquiv_apply]

end Cert.TakeRows

end
-- ==== Proof.Gather.Tile.lean ====
/-
  One task of the row gather. It fetches its 6400 entries of the list, gathers the table rows they name by one indirect
  stream, and writes those rows to its 6400 rows of the output. Every entry being in range, the task's part of the
  output then holds the gathered rows (`tile_body`), which is what the launch asks of each task (`tileObl`).
-/
module

public import proofs.«01_k».proof.Proof.Gather.Setup
public import Idealize.ShloMosaic.Lib.SparseCore.FromWhole

@[expose] public section

set_option maxRecDepth 16384

noncomputable section

namespace Cert.TakeRows

open Cert.Gather Cert.Gather.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Gather.main_v11_scv : Memref Cert.Gather.sig Kind.scVector Space.hbm Cert.Gather.S4000000x16 EltTy.f32)
local notation "iV" => (Memref.whole Cert.Gather.main_v10_scv : Memref Cert.Gather.sig Kind.scVector Space.hbm Cert.Gather.S204800 EltTy.i32)
local notation "oV" => (Memref.whole Cert.Gather.main_v12_scv : Memref Cert.Gather.sig Kind.scVector Space.hbm Cert.Gather.S204800x16 EltTy.f32)
local notation "sV" => (Memref.whole Cert.Gather.cc0_scratch0 : Memref Cert.Gather.sig Kind.scVector Space.vmem Cert.Gather.S6400 EltTy.i32)
local notation "rV" => (Memref.whole Cert.Gather.cc0_scratch1 : Memref Cert.Gather.sig Kind.scVector Space.vmem Cert.Gather.S6400x16 EltTy.f32)

variable (I : (d : Dev nD) → Buf (Elt F) (iLoc d)) (X : (d : Dev nD) → Buf (Elt F) (xLoc d)) (O₀ : (d : Dev nD) → Buf (Elt F) (oLoc d))
variable (d : Dev nD) (L : grid0.Coords)

/-! ## The task's windows -/

abbrev cV : Fin τ.nSC := (L 0).castLE hcore0
abbrev jV : Fin τ.nSub := (L 1).castLE hsub0
/-- The task's number. -/
abbrev wL : Fin 32 := task ⟨(L 0).val, (L 0).isLt⟩ ⟨(L 1).val, (L 1).isLt⟩

abbrev iRectK : Rect S204800 := Rect.unit (s := S204800) (k0_off1 L) S6400.size (k0_off1_inb L)
abbrev oRectK : Rect S204800x16 := Rect.unit (s := S204800x16) (k0_off2 L) S6400x16.size (k0_off2_inb L)
abbrev iRowK : Memref sig .scVector .hbm S6400 .i32 := (iV).slice (iRectK L) (fun _ => rfl)
abbrev oRowK : Memref sig .scVector .hbm S6400x16 .f32 := (oV).slice (oRectK L) (fun _ => rfl)
abbrev xAllK : Memref sig .scVector .hbm S4000000x16 .f32 :=
  (xV).slice (Rect.unit (s := S4000000x16) ![0, 0] S4000000x16.size inb_S4000000x16_S4000000x16_0_0) (fun _ => rfl)

theorem iRectK_eq : iRectK L = iPart (wL L) := by
  unfold iRectK iPart Rect.part Rect.block
  congr 1 <;> funext a
  · rw [k0_off1_eq]
    match a with
    | 0 => simp [Shape.partIx, Shape.partSize, task]; omega
  · match a with
    | 0 => simp [Shape.partSize]
theorem oRectK_eq : oRectK L = oPart (wL L) := by
  unfold oRectK oPart Rect.part Rect.block
  congr 1 <;> funext a
  · rw [k0_off2_eq]
    match a with
    | 0 => simp [Shape.partIx, Shape.partSize, task]; omega
    | 1 => simp [Shape.partIx, Shape.partSize]
  · match a with
    | 0 => simp [Shape.partSize]
    | 1 => simp [Shape.partSize]

theorem set_iRowK : (iRowK L).view.set = iSet (wL L) := by
  show ((iV).view.slice (iRectK L)).set = ((iV).view.slice (iPart (wL L))).set
  exact iRectK_eq L ▸ rfl
theorem set_oRowK : (oRowK L).view.set = oSet (wL L) := by
  show ((oV).view.slice (oRectK L)).set = ((oV).view.slice (oPart (wL L))).set
  exact oRectK_eq L ▸ rfl

theorem pts_iRowK (f : Buf (Elt F) (iLoc d)) :
    ((iRowK L).view.loc (V d (cV L) (jV L)) ↦[(iRowK L).view.set]{fullShare} f : sProp 𝕄) = iLoc d ↦[iSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-! ## The task's own semaphores and scratch -/

abbrev gatherCell (d : Dev nD) (c : Fin τ.nSC) (i : Fin τ.nSub) : GSem nD τ sig := (V d c i, .dma cc0_scratch2.sem)
abbrev fetchCell (d : Dev nD) (c : Fin τ.nSC) (i : Fin τ.nSub) : GSem nD τ sig := (V d c i, .dma cc0_scoped0.sem)
abbrev storeCell (d : Dev nD) (c : Fin τ.nSC) (i : Fin τ.nSub) : GSem nD τ sig := (V d c i, .dma cc0_scoped1.sem)

theorem ownSems0_V :
    (ownSems0 (V d (cV L) (jV L)) : sProp 𝕄)
      = iprop(semVal (gatherCell d (cV L) (jV L)) 0 ∗ semVal (fetchCell d (cV L) (jV L)) 0 ∗ semVal (storeCell d (cV L) (jV L)) 0
          ∗ bigSep ((((ownCells (V d (cV L) (jV L))).erase (gatherCell d (cV L) (jV L))).erase (fetchCell d (cV L) (jV L))).erase (storeCell d (cV L) (jV L))) fun g => semVal g 0) := by
  unfold SparseCore.Cfg.ownSems0
  rw [SparseCore.bigSep_erase' ((mem_ownCells (g := gatherCell d (cV L) (jV L))).mpr ⟨rfl, by
      show (SemLoc.dma cc0_scratch2.sem : SemLoc sig).isScoped .scVector = true; decide⟩),
    SparseCore.bigSep_erase' (Finset.mem_erase.mpr ⟨by simp [gatherCell, fetchCell]; decide, (mem_ownCells (g := fetchCell d (cV L) (jV L))).mpr ⟨rfl, by
      show (SemLoc.dma cc0_scoped0.sem : SemLoc sig).isScoped .scVector = true; decide⟩⟩),
    SparseCore.bigSep_erase' (Finset.mem_erase.mpr ⟨by simp [fetchCell, storeCell]; decide, Finset.mem_erase.mpr ⟨by simp [gatherCell, storeCell]; decide,
      (mem_ownCells (g := storeCell d (cV L) (jV L))).mpr ⟨rfl, by show (SemLoc.dma cc0_scoped1.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the task leaves -/

/-- The scratch list after the fetch is the task's entries of the list. -/
theorem fetched (fs : Buf (Elt F) ((V d (cV L) (jV L)).loc cc0_scratch0)) (x : S6400.Idx) :
    (sV).view.read (Elt F) (View.write (Elt F) (sV).view fs ((iRowK L).view.read (Elt F) (I d)) Finset.univ) x
      = I d ((iRowK L).view.emb x) := by
  rw [View.write_whole_univ]
  simp only [Memref.view_whole, View.read_whole]
  exact (View.read_apply _ _).trans (cast_eq _ _)

/-- In range, the fetched entries all name table rows. -/
theorem fetched_lt (hI : InRange I) (fs : Buf (Elt F) ((V d (cV L) (jV L)).loc cc0_scratch0)) (x : S6400.Idx) :
    ((sV).view.read (Elt F) (View.write (Elt F) (sV).view fs ((iRowK L).view.read (Elt F) (I d)) Finset.univ) x).toNat
      < S4000000x16.size gathers_S4000000x16_S6400x16.axis := by
  rw [fetched]; exact hI d _

/-- Position `k` of the scratch list is its entry `k`. -/
theorem list_pos (k : Fin S6400.numel) : (S6400.rowMajor.symm k) 0 = k.cast (Shape.numel_rank1 _) := by
  have h : (S6400.rowMajor (S6400.rowMajor.symm k)).val = k.val := by rw [Equiv.apply_symm_apply]
  rw [Shape.rowMajor_val_one] at h
  exact Fin.ext h

/-- What the stream lands at `y` of the row scratch is what the gathered rows hold where the task's window of the output
    has `y`. -/
theorem landed_row (hI : InRange I) (fs : Buf (Elt F) ((V d (cV L) (jV L)).loc cc0_scratch0)) (y : S6400x16.Idx) :
    SparseCore.gatherPayload gathers_S4000000x16_S6400x16 ((xAllK).view.read (Elt F) (X d))
        (SparseCore.rows ((sV).view.read (Elt F) (View.write (Elt F) (sV).view fs ((iRowK L).view.read (Elt F) (I d)) Finset.univ))
          (rfl : S6400.numel = S6400x16.size gathers_S4000000x16_S6400x16.axis') (fetched_lt I d L hI fs)) y
      = gath I X d ((oRowK L).view.emb y) := by
  show (xAllK).view.read (Elt F) (X d) _ = _
  rw [View.read_apply]
  refine (cast_eq _ _).trans (congrArg (X d) (funext fun a => Fin.ext ?_))
  match a with
  | 0 =>
    show 0 + 1 * ((gathers_S4000000x16_S6400x16).idx _ y (gathers_S4000000x16_S6400x16).axis).val = (I d (ix1 ((oRowK L).view.emb y 0)) : BitVec 32).toNat % 4000000
    rw [Shape.Gathers.idx_axis, Nat.mod_eq_of_lt (hI d _), zero_add, one_mul]
    refine (congrArg BitVec.toNat (fetched I d L fs _)).trans ?_
    refine congrArg (fun z => BitVec.toNat (I d z)) (funext fun b => Fin.ext ?_)
    match b with
    | 0 =>
      show (k0_off1 L) 0 + 1 * ((S6400.rowMajor.symm _) 0).val = (k0_off2 L) 0 + 1 * (y 0).val
      rw [list_pos, k0_off1_eq, k0_off2_eq]; rfl
  | 1 =>
    show 0 + 1 * ((gathers_S4000000x16_S6400x16).idx _ y 1).val = (k0_off2 L) 1 + 1 * (y 1).val
    rw [Shape.Gathers.idx_of_ne _ _ _ _ (by decide), k0_off2_eq]; rfl

/-- The same read back from the row scratch, once the stream has landed there. -/
theorem landed_scratch (hI : InRange I) (fs : Buf (Elt F) ((V d (cV L) (jV L)).loc cc0_scratch0))
    (fr : Buf (Elt F) ((V d (cV L) (jV L)).loc cc0_scratch1)) (y : S6400x16.Idx) :
    (rV).view.read (Elt F) (View.write (Elt F) (rV).view fr
        (SparseCore.gatherPayload gathers_S4000000x16_S6400x16 ((xAllK).view.read (Elt F) (X d))
          (SparseCore.rows ((sV).view.read (Elt F) (View.write (Elt F) (sV).view fs ((iRowK L).view.read (Elt F) (I d)) Finset.univ))
            (rfl : S6400.numel = S6400x16.size gathers_S4000000x16_S6400x16.axis') (fetched_lt I d L hI fs))) Finset.univ) y
      = gath I X d ((oRowK L).view.emb y) := by
  rw [View.write_whole_univ]
  exact landed_row I X d L hI fs y

/-- The task's window of the output, written with a payload that is the gathered rows there, holds the gathered rows. -/
theorem stored (w : S6400x16.Idx → Elt F .f32) (hw : ∀ y, w y = gath I X d ((oRowK L).view.emb y)) :
    ((oRowK L).view.loc (V d (cV L) (jV L)) ↦[(oRowK L).view.set]{fullShare}
        (oRowK L).view.writes (Elt F) (O₀ d) [⟨Rect.whole S6400x16, w⟩] : sProp 𝕄)
      = oLoc d ↦[oSet (wL L)]{fullShare} gath I X d := by
  refine Eq.trans ?_ (pts_oRowK d L (gath I X d))
  refine pointsTo_congr fun i hi => ?_
  obtain ⟨y, -, rfl⟩ := Finset.mem_map.mp hi
  rw [View.writes_singleton]
  have e : (oRowK L).view.emb y = ((oRowK L).view.slice (Rect.whole S6400x16)).emb y := by
    rw [View.emb_slice]; simp
  rw [e, View.write_emb_of_mem _ _ (Finset.mem_univ _), ← e]
  exact (cast_eq _ _).trans (hw y)

set_option maxHeartbeats 4000000 in
/-- The task on vector subcore `(L 0, L 1)` of device `d`, from its part of the three arrays: it ends, nothing faulting,
    with its part of the output at the gathered rows, everything else as it was. -/
theorem tile_body (hF : (K (F := F)).Facts) (hI : InRange I) [FloatOps F] (O : CellTallies nD τ sig (HIx 1)) (W : Waits sig (HIx 1)) (hO : ∀ g, O g none = 0) :
    iprop(levAts (K (F := F)).L (K (F := F)).lev ∗ emp ∗ part I X d (wL L) (O₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(part I X d (wL L) (gath I X d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemF, HsemS, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (pts_iRowK (F := F) d L _).symm) $$ Hi
  ihave Ho := (Entails.of_eq (pts_oRowK (F := F) d L _).symm) $$ Ho
  ihave Hx := (Entails.of_eq (pts_xV (F := F) d L _ _).symm) $$ Hx
  ihave Hs := (Entails.of_eq (pts_sV (F := F) d L _).symm) $$ Hs
  ihave Hr := (Entails.of_eq (pts_rV (F := F) d L _).symm) $$ Hr
  sl_exec
  have hN : ∑ j, ((rV).slice (S6400x16.rowRect gathers_S4000000x16_S6400x16.axis' j) (S6400x16.stride_rowRect gathers_S4000000x16_S6400x16.axis' j)).view.dmaCredit
      = (rV).view.dmaCredit := SparseCore.sum_rowCredit_eq_dmaCredit _ _ fun _ => rfl
  iapply (SparseCore.wp_gatherFromWhole countersEmb 𝒱₀ (V d (cV L) (jV L)) none (hg := gathers_S4000000x16_S6400x16) (default : HIx 1)
      (rV).view.dmaCredit hN (by decide) (fetched_lt I d L hI fs)) $$ [Hx Hr Hs HsemG]
  · isplitl [Hx]; · iexact Hx
    isplitl [Hr]; · iexact Hr
    isplitl [Hs]; · iexact Hs
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hx, Hs⟩, HsemG, HO⟩
  sl_exec
  sl_step
  isplitl [Hi Hx Ho]
  · isplitl [Hi]; · iapply (Entails.of_eq (pts_iRowK (F := F) d L _)); iexact Hi
    isplitl [Hx]; · iexact Hx
    iapply (Entails.of_eq (stored I X O₀ d L _ fun y => (landed_scratch I X d L hI fs fr y))); iexact Ho
  isplitl [Hs Hr Hbufs]
  · isplitl [Hs]; · iexists _; iexact Hs
    isplitl [Hr]; · iexists _; iexact Hr
    iexact Hbufs
  isplitl [HsemF HsemG HsemS Hsems]
  · isplitl [HsemG]; · iexact HsemG
    isplitl [HsemF]; · iexact HsemF
    isplitl [HsemS]; · iexact HsemS
    iexact Hsems
  iexists _; isplitr
  swap; · iexact HO
  ipureintro
  intro p hp
  simp only [Finset.mem_insert] at hp
  rcases hp with rfl | rfl | rfl | hp
  · exact .inr rfl
  · exact .inr rfl
  · exact .inr rfl
  · exact .inl hp

/-! ## What the launch asks of each task -/

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__gather_body (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit d L in
/-- The waits a task records are its own transfers', none of them the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

/-- Every task meets its obligation, the list in range. -/
theorem tileObl [FloatOps F] (hI : InRange I) : (K (F := F)).TileObl (D (F := F)) 𝒱 (P I X O₀) v₀ 0 := by
  intro d c i O W hO _ _
  simp only [show (P I X O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I X O₀ d (coordsV ⟨_, hci.1⟩ ⟨_, hci.2⟩) facts hI O W hO).trans (wp_mono frame _ _ fun _ => obl_post)

end Cert.TakeRows

end
-- ==== Proof.Gather.Launch.lean ====
/-
  The whole row gather, run from any launch memory whose expanded list is in range: the host operations that lay out the
  list and the table, the SparseCore call, and the host reshape of its output. It ends, nothing faulting, with every
  semaphore at zero, the two arguments as they were, and its result at the reshaped gathered rows (`run_main`).
-/
module

public import proofs.«01_k».proof.Proof.Gather.Tile
public import Idealize.ShloMosaic.Lib.Pipeline.Frame

@[expose] public section

set_option maxRecDepth 16384

noncomputable section

namespace Cert.TakeRows

open Cert.Gather Cert.Gather.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held held_congr held_sub_split wp_seq)

variable {F : FTy → Type}

local notation "𝕄" => MT nD τ sig (HIx 1) (Elt F) ℕ UU ℕ

variable [FloatOps F]

/-! ## The host operations before and after the call -/

/-- What lays out the list (each index four times over, times four, plus 0 to 3) and the table (sixteen lanes a row). -/
def before : List (HloOp τ sig (Elt F)) :=
  [ StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
    StableHlo.reshape main_v0 main_v1 (rfl : (.i32 : EltTy) = .i32) shapeCasts_S50x1024_S51200,
    StableHlo.reshape main_v1 main_v2 (rfl : (.i32 : EltTy) = .i32) shapeCasts_S51200_S51200x1,
    StableHlo.nullary main_c (constantI S_ 32 4#32),
    StableHlo.unary main_c main_v3 (broadcastInDim S51200x1 ![] bcast_S_S51200x1 : (⟨S_, .i32⟩ : BufTy).Contents (Elt F) → (⟨S51200x1, .i32⟩ : BufTy).Contents (Elt F)),
    StableHlo.binary main_v2 main_v3 main_v4 (muli : (⟨S51200x1, .i32⟩ : BufTy).Contents (Elt F) → (⟨S51200x1, .i32⟩ : BufTy).Contents (Elt F) → (⟨S51200x1, .i32⟩ : BufTy).Contents (Elt F)),
    StableHlo.nullary main_v5 (iotaInDim S4 32 0),
    StableHlo.unary main_v5 main_v6 (broadcastInDim S1x4 ![1] bcast_S4_S1x4_1 : (⟨S4, .i32⟩ : BufTy).Contents (Elt F) → (⟨S1x4, .i32⟩ : BufTy).Contents (Elt F)),
    StableHlo.unary main_v4 main_v7 (broadcastInDim S51200x4 ![0, 1] bcast_S51200x1_S51200x4_0_1 : (⟨S51200x1, .i32⟩ : BufTy).Contents (Elt F) → (⟨S51200x4, .i32⟩ : BufTy).Contents (Elt F)),
    StableHlo.unary main_v6 main_v8 (broadcastInDim S51200x4 ![0, 1] bcast_S1x4_S51200x4_0_1 : (⟨S1x4, .i32⟩ : BufTy).Contents (Elt F) → (⟨S51200x4, .i32⟩ : BufTy).Contents (Elt F)),
    StableHlo.binary main_v7 main_v8 main_v9 (addi : (⟨S51200x4, .i32⟩ : BufTy).Contents (Elt F) → (⟨S51200x4, .i32⟩ : BufTy).Contents (Elt F) → (⟨S51200x4, .i32⟩ : BufTy).Contents (Elt F)),
    StableHlo.reshape main_v9 main_v10 (rfl : (.i32 : EltTy) = .i32) shapeCasts_S51200x4_S204800,
    StableHlo.reshape main_arg1 main_v11 (rfl : (.f32 : EltTy) = .f32) shapeCasts_S1000000x64_S4000000x16 ]

/-- What gives the output the result's shape. -/
def behind : List (HloOp τ sig (Elt F)) :=
  [ StableHlo.reshape main_v12 main_v13 (rfl : (.f32 : EltTy) = .f32) shapeCasts_S204800x16_S50x1024x64 ]

theorem main_eq (d : Dev nD) :
    main (F := F) d = (seq (before (F := F)) >>= fun _ => (K (F := F)).run d 0 >>= fun _ => seq (behind (F := F)) >>= fun _ => pure ⟨⟩) := rfl

/-- The TensorCore's buffers of @main. -/
abbrev bufs : Finset (DevRef τ sig) := Pipeline.ucRefs τ sig

abbrev xB : DevRef τ sig := Proc.devRef .tc main_v11
abbrev iB : DevRef τ sig := Proc.devRef .tc main_v10
abbrev oB : DevRef τ sig := Proc.devRef .tc main_v12
abbrev a0B : DevRef τ sig := Proc.devRef .tc main_arg0
abbrev a1B : DevRef τ sig := Proc.devRef .tc main_arg1
abbrev rB : DevRef τ sig := Proc.devRef .tc main_v13
abbrev callBufs : Finset (DevRef τ sig) := {iB, xB, oB}
abbrev endBufs : Finset (DevRef τ sig) := {a0B, a1B, rB}

theorem callBufs_sub : callBufs ⊆ bufs := by decide
theorem endBufs_sub : endBufs ⊆ bufs := by decide
theorem before_bufs : ∀ op ∈ before (F := F), op.bufs ⊆ bufs := by
  refine List.forall_iff_forall_mem.mp ?_
  unfold before
  refine ⟨?_, ?_, ?_, ?_, ?_, ?_, ?_, ?_, ?_, ?_, ?_, ?_, ?_⟩
  all_goals repeat first | exact Finset.singleton_subset_iff.mpr (by decide) | refine Finset.insert_subset (by decide) ?_
theorem before_fresh : ∀ op ∈ before (F := F), op.fresh = ∅ := by
  refine List.forall_iff_forall_mem.mp ?_
  exact ⟨rfl, rfl, rfl, rfl, rfl, rfl, rfl, rfl, rfl, rfl, rfl, rfl, rfl⟩
theorem behind_bufs : ∀ op ∈ behind (F := F), op.bufs ⊆ bufs :=
  List.forall_iff_forall_mem.mp (show List.Forall _ [_] from
    Finset.insert_subset (by decide) (Finset.singleton_subset_iff.mpr (by decide)))
theorem behind_fresh : ∀ op ∈ behind (F := F), op.fresh = ∅ :=
  List.forall_iff_forall_mem.mp (show List.Forall _ [_] from rfl)

/-! ## The contents along the way -/

variable (m : (ℓ : Loc nD τ sig) → Buf (Elt F) ℓ) (ρ : Dev nD → PrngReg)

/-- At the launch; -/
def V0 (d : Dev nD) : Valuation τ sig (Elt F) := fun b => m (d, b)
/-- at the call; -/
def V1 (d : Dev nD) : Valuation τ sig (Elt F) := after (before (F := F)) (V0 m d)
/-- The list, -/
def listOf (d : Dev nD) : Buf (Elt F) (iLoc d) := V1 m d iB
/-- the table -/
def tableOf (d : Dev nD) : Buf (Elt F) (xLoc d) := V1 m d xB
/-- and the output the call starts from. -/
def outOf (d : Dev nD) : Buf (Elt F) (oLoc d) := V1 m d oB
/-- After the call only the output has changed, to the gathered rows; -/
def V2 (d : Dev nD) : Valuation τ sig (Elt F) := Function.update (V1 m d) oB (gath (listOf m) (tableOf m) d)
/-- at the end. -/
def V3 (d : Dev nD) : Valuation τ sig (Elt F) := after (behind (F := F)) (V2 m d)

theorem V2_i (d : Dev nD) : V2 m d iB = listOf m d := Function.update_of_ne (show iB ≠ oB by decide) _ _
theorem V2_x (d : Dev nD) : V2 m d xB = tableOf m d := Function.update_of_ne (show xB ≠ oB by decide) _ _
theorem V2_o (d : Dev nD) : V2 m d oB = gath (listOf m) (tableOf m) d := Function.update_self _ _ _

/-- The call's three buffers held at a valuation. -/
theorem held_call (d : Dev nD) (W : Valuation τ sig (Elt F)) :
    (held (T d) callBufs W : sProp 𝕄) = iprop((iLoc d ↦{fullShare} W iB) ∗ (xLoc d ↦{fullShare} W xB) ∗ oLoc d ↦{fullShare} W oB) := by
  unfold held callBufs
  rw [SparseCore.bigSep_insert' (by decide), SparseCore.bigSep_insert' (by decide), bigSep_singleton]

/-- The other buffers are not the call's. -/
theorem held_rest (d : Dev nD) : (held (T d) (bufs \ callBufs) (V2 m d) : sProp 𝕄) = held (T d) (bufs \ callBufs) (V1 m d) :=
  held_congr (T d) fun b hb => by
    have hne : b ≠ oB := fun e => (Finset.mem_sdiff.mp hb).2 (by rw [e]; decide)
    exact Function.update_of_ne hne _ _

/-! ## The launch -/

/-- A core's tasks are handed what the core is, and bring it back. -/
theorem vecSplit : (K (F := F)).VecSplit' (P (listOf m) (tableOf m) (outOf m)) 0 := by
  intro d c
  show (bigSep Finset.univ fun i : Fin 16 => part (listOf m) (tableOf m) d (task c i) (outOf m d))
    ⊢ |={Set.univ}=> iprop((bigSep Finset.univ fun i : Fin 16 => part (listOf m) (tableOf m) d (task c i) (outOf m d))
      ∗ ((bigSep Finset.univ fun i : Fin 16 => part (listOf m) (tableOf m) d (task c i) (gath (listOf m) (tableOf m) d))
        -∗ bigSep Finset.univ fun i : Fin 16 => part (listOf m) (tableOf m) d (task c i) (gath (listOf m) (tableOf m) d)))
  iintro H; imodintro
  isplitl [H]; · iexact H
  iintro H; iexact H

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (listOf m) (tableOf m) (outOf m)).x q thr) := by
  have hemp {J : Type} (s : Finset J) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) (listOf m) (tableOf m) (outOf m)).x q thr)
      = bigSep Finset.univ fun _ => iprop(emp) from bigSep_congr fun _ _ => bigSep_univ_of_subsingleton (0 : Fin 1), hemp]
  iempintro

/-- What the call takes is the three arrays at the call's contents, -/
theorem st_eq (d : Dev nD) : (bigSep Finset.univ fun c : Fin ((K (F := F)).nCore 0) => (P (listOf m) (tableOf m) (outOf m)).st 0 d c)
    = (held (T d) callBufs (V1 m d) : sProp 𝕄) :=
  (arrays_split (listOf m) (tableOf m) d (outOf m d)).symm.trans (held_call d (V1 m d)).symm
/-- and what it brings back is them with the output at the gathered rows. -/
theorem dn_eq (d : Dev nD) : (bigSep Finset.univ fun c : Fin ((K (F := F)).nCore 0) => (P (listOf m) (tableOf m) (outOf m)).dn 0 d c)
    = (held (T d) callBufs (V2 m d) : sProp 𝕄) := by
  rw [held_call, V2_i, V2_x, V2_o]
  exact (arrays_split (listOf m) (tableOf m) d (gath (listOf m) (tableOf m) d)).symm

/-- What @main keeps to the end: the two arguments and the result. -/
abbrev FIN (d : Dev nD) : sProp 𝕄 := held (T d) endBufs (V3 m d)

/-- @main on device `d`: the host operations, the call, the reshape. -/
theorem hmain (κ : GSem nD τ sig → ℕ) (d : Dev nD) :
    iprop((K (F := F)).ctx EH (P (listOf m) (tableOf m) (outOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) bufs (V0 m d) from
    Pipeline.unscopedBufs_held d (V0 m d), main_eq]
  iintro ⟨#Hctx, Hst, ⟨Hb, Hheld, Hts, -⟩, -⟩
  iapply (wp_seq 𝒱 none Set.univ d bufs _ (before (F := F)) before_bufs before_fresh (V0 m d)) $$ [Hb Hheld]
  · isplitl [Hb] <;> iassumption
  iintro ⟨Hb, Hheld⟩
  ihave Hh := (Entails.of_eq (show (held (d.tc : Thread nD τ) bufs (after (before (F := F)) (V0 m d)) : sProp 𝕄)
      = iprop(held (T d) callBufs (V1 m d) ∗ held (T d) (bufs \ callBufs) (V1 m d)) from held_sub_split (T d) callBufs_sub (V1 m d))) $$ Hheld
  icases Hh with ⟨Hcall, Hrest⟩
  rw [wp_bind]
  iapply ((K (F := F)).wp_run (D (F := F)) 𝒱 (EH := EH) (P := P (listOf m) (tableOf m) (outOf m)) κ d 0) $$ [Hst Hcall Hrest Hb Hts]
  isplitr; · iexact Hctx
  isplitl [Hst]; · iexact Hst
  isplitl [Hcall]; · iapply (Entails.of_eq (st_eq m d).symm); iexact Hcall
  iintro ⟨Hst, Hdn⟩
  ihave Hcall := (Entails.of_eq (dn_eq m d)) $$ Hdn
  ihave Hrest := (Entails.of_eq (held_rest m d).symm) $$ Hrest
  iapply (wp_seq 𝒱 none Set.univ d bufs _ (behind (F := F)) behind_bufs behind_fresh (V2 m d)) $$ [Hb Hcall Hrest]
  · isplitl [Hb]; · iexact Hb
    iapply (Entails.of_eq (held_sub_split (T d) callBufs_sub (V2 m d)).symm)
    isplitl [Hcall] <;> iassumption
  iintro ⟨Hb, Hheld⟩
  ihave Hh := (Entails.of_eq (show (held (d.tc : Thread nD τ) bufs (after (behind (F := F)) (V2 m d)) : sProp 𝕄)
      = iprop(held (T d) endBufs (V3 m d) ∗ held (T d) (bufs \ endBufs) (V3 m d)) from held_sub_split (T d) endBufs_sub (V3 m d))) $$ Hheld
  icases Hh with ⟨Hend, -⟩
  rw [wp_pure]; imodintro
  isplitl [Hst]; · iexact Hst
  isplitl [Hend]; · iexact Hend
  isplitl [Hb] <;> iassumption

/-- What the end says of device `d`'s memory. -/
def fq (d : Dev nD) (s' : Phys nD τ sig (Elt F)) : Prop :=
  s'.mem.mem (d, a0B) = V3 m d a0B ∧ s'.mem.mem (d, a1B) = V3 m d a1B ∧ s'.mem.mem (d, rB) = V3 m d rB

theorem hfin (d : Dev nD) (s' : Phys nD τ sig (Elt F)) : iprop(FIN m d ∗ SI s') ⊢ (⌜fq m d s'⌝ : sProp 𝕄) := by
  unfold FIN held endBufs
  rw [SparseCore.bigSep_insert' (by decide), SparseCore.bigSep_insert' (by decide), bigSep_singleton]
  iintro ⟨⟨H0, H1, Hr⟩, HSI⟩
  ihave H := (persistent_entails_right (SI_pointsTo_agree (st := s') (ℓ := (d, a0B)) (I := Finset.univ) (q := fullShare) (f := V3 m d a0B))) $$ [HSI H0]
  · isplitl [HSI] <;> iassumption
  icases H with ⟨%h0, HSI, -⟩
  ihave H := (persistent_entails_right (SI_pointsTo_agree (st := s') (ℓ := (d, a1B)) (I := Finset.univ) (q := fullShare) (f := V3 m d a1B))) $$ [HSI H1]
  · isplitl [HSI] <;> iassumption
  icases H with ⟨%h1, HSI, -⟩
  ihave H := (SI_pointsTo_agree (st := s') (ℓ := (d, rB)) (I := Finset.univ) (q := fullShare) (f := V3 m d rB)) $$ [HSI Hr]
  · isplitl [HSI] <;> iassumption
  icases H with %hr
  ipureintro
  exact ⟨funext fun i => h0 i (Finset.mem_univ i), funext fun i => h1 i (Finset.mem_univ i), funext fun i => hr i (Finset.mem_univ i)⟩

/-- The run of the row gather from a launch memory whose list is in range. -/
theorem run_main [∀ e, Nonempty (Elt F e)] (hI : InRange (listOf m)) :
    θ_run (Cert.Gather.defs (F := F)) (Cert.Gather.threads (F := F)) ⟨m, fun _ => 0, ρ⟩
      (fun r => (∀ d : Dev nD, r.2.mem (d, a0B) = V3 m d a0B ∧ r.2.mem (d, a1B) = V3 m d a1B ∧ r.2.mem (d, rB) = V3 m d rB)
        ∧ r.2.sem = fun _ => 0) :=
  SparseCore.Cfg.θ_run_sc_quiescent (K := K (F := F)) (D := D (F := F)) (𝒱 := 𝒱) (EH := EH) (P := P (listOf m) (tableOf m) (outOf m)) (A := ∅) facts v₀
    (fun q hq => match q with | 0 => nomatch hq)
    (fun q _ => match q with | 0 => tileObl _ _ _ hI)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.TakeRows

end
-- ==== Proof.Gather.Host.lean ====
/-
  The host's operations around the SparseCore call, read at an index.

  Before the call the host transposes the indices, expands each into the four indices of its chunks of sixteen numbers, and
  views the table as chunks; behind it, it views the gathered chunks as [50, 1024, 64]. Here: what the list of indices and
  the table hold at each index, in terms of the program's arguments, and what the result holds. With every index below
  1000000, the result at (t, b, e) is the table at row x[b, t], column e.
-/
module

public import proofs.«01_k».proof.Proof.Gather.Launch
public import Idealize.ShloMosaic.Lib.StableHlo.RunRead
public import Idealize.ShloMosaic.Lib.Pipeline.Value
public import Idealize.ShloMosaic.Lib.ValueLayout

@[expose] public section

set_option maxRecDepth 16384

noncomputable section

namespace Cert.TakeRows

open Cert.Gather Cert.Gather.Gen
open Idealize.ShloMosaic
open Idealize.ShloMosaic.ValueIdx
open Idealize.ShloMosaic.StableHlo

variable {F : FTy → Type} [FloatOps F]
variable (m : (ℓ : Loc nD τ sig) → Buf (Elt F) ℓ)

/-! ## The arguments -/

/-- The indices: the program's first argument. -/
abbrev indices (d : Dev nD) : IVec S1024x50 32 := m (d, a0B)

/-- The table: the program's second argument. -/
abbrev table (d : Dev nD) : FVec F S1000000x64 .f32 := m (d, a1B)

/-! ## The list of chunk indices -/

/-- The four chunk indices of every index, one row for each of the 51200 indices. -/
def chunkIndices (x : IVec S1024x50 32) : IVec S51200x4 32 :=
  addi
    (broadcastInDim S51200x4 ![0, 1] bcast_S51200x1_S51200x4_0_1
      (muli
        (shapeCast S51200x1 (shapeCast S51200 (transpose S50x1024 [1, 0] x transposes_S1024x50_S50x1024_1_0) shapeCasts_S50x1024_S51200)
          shapeCasts_S51200_S51200x1)
        (broadcastInDim S51200x1 ![] bcast_S_S51200x1 (constantI S_ 32 4#32))))
    (broadcastInDim S51200x4 ![0, 1] bcast_S1x4_S51200x4_0_1 (broadcastInDim S1x4 ![1] bcast_S4_S1x4_1 (iotaInDim S4 32 0)))

/-- Row t * 1024 + b, column k of the chunk indices is four times x[b, t], plus k. -/
theorem chunkIndices_apply (x : IVec S1024x50 32) (t : Fin 50) (b : Fin 1024) (k : Fin 4) :
    chunkIndices x (ix2 (⟨t.val * 1024 + b.val, by omega⟩ : Fin 51200) k)
      = IntOp.addi (IntOp.muli (x (ix2 b t)) 4#32) (BitVec.ofNat 32 k.val) := by
  unfold chunkIndices
  show IntOp.addi (broadcastInDim _ _ _ _ _) (broadcastInDim _ _ _ _ _) = _
  congr 1
  rw [broadcastInDim_apply _ _ _ _ (ix2 (⟨t.val * 1024 + b.val, by omega⟩ : Fin 51200) (0 : Fin 1))
    (fun a => match a with | ⟨0, _⟩ => rfl | ⟨1, _⟩ => rfl)]
  show IntOp.muli (shapeCast _ _ _ _) (broadcastInDim _ _ _ _ _) = _
  congr 1
  rw [shapeCast_apply _ _ _ (ix1 (⟨t.val * 1024 + b.val, by omega⟩ : Fin 51200))
      (by rw [Shape.rowMajor_val_one, Shape.rowMajor_val_two]; simp),
    shapeCast_apply _ _ _ (ix2 t b) (by rw [Shape.rowMajor_val_one, Shape.rowMajor_val_two]; rfl),
    transpose_ix2_apply]

/-- The list the SparseCore call reads is the chunk indices, end to end. -/
theorem listOf_eq (d : Dev nD) : listOf m d = shapeCast S204800 (chunkIndices (indices m d)) shapeCasts_S51200x4_S204800 := by
  unfold listOf V1 before
  show after _ _ (Proc.devRef .tc main_v10) = _
  after_reads_simp
  rfl

/-- Element (t * 1024 + b) * 4 + k of the list is four times x[b, t], plus k. -/
theorem listOf_apply (d : Dev nD) (t : Fin 50) (b : Fin 1024) (k : Fin 4) :
    listOf m d (ix1 (⟨(t.val * 1024 + b.val) * 4 + k.val, by omega⟩ : Fin 204800))
      = IntOp.addi (IntOp.muli (indices m d (ix2 b t)) 4#32) (BitVec.ofNat 32 k.val) := by
  rw [listOf_eq, ← chunkIndices_apply]
  exact shapeCast_apply _ _ _ _ (by rw [Shape.rowMajor_val_one, Shape.rowMajor_val_two]; rfl)

/-- Four times a word below 1000000, plus k < 4, does not wrap around. -/
theorem toNat_chunk (w : BitVec 32) (k : Nat) (hw : w.toNat < 1000000) (hk : k < 4) :
    (IntOp.addi (IntOp.muli w 4#32) (BitVec.ofNat 32 k)).toNat = 4 * w.toNat + k := by
  show (w * 4#32 + BitVec.ofNat 32 k).toNat = _
  rw [BitVec.toNat_add, BitVec.toNat_mul, BitVec.toNat_ofNat, BitVec.toNat_ofNat]
  omega

/-- With every index below 1000000, element (t * 1024 + b) * 4 + k of the list is 4 * x[b, t] + k, as a natural number. -/
theorem toNat_listOf (hx : ∀ d i, (indices m d i).toNat < 1000000) (d : Dev nD) (t : Fin 50) (b : Fin 1024) (k : Fin 4) :
    (listOf m d (ix1 (⟨(t.val * 1024 + b.val) * 4 + k.val, by omega⟩ : Fin 204800)) : BitVec 32).toNat
      = 4 * (indices m d (ix2 b t)).toNat + k.val := by
  rw [listOf_apply, toNat_chunk _ _ (hx d _) k.isLt]

/-- With every index below 1000000, every element of the list is the index of a chunk of the table. -/
theorem inRange_listOf (hx : ∀ d i, (indices m d i).toNat < 1000000) : InRange (listOf m) := by
  intro d j
  have hr := (j 0).isLt
  have hr' : (j 0).val < 204800 := hr
  have hj : j = ix1 (⟨((j 0).val / 4096 * 1024 + (j 0).val / 4 % 1024) * 4 + (j 0).val % 4, by omega⟩ : Fin 204800) := by
    funext a
    match a with
    | ⟨0, _⟩ => exact Fin.ext (by show (j 0).val = _; dsimp only; omega)
  have h := toNat_listOf m hx d ⟨(j 0).val / 4096, by omega⟩ ⟨(j 0).val / 4 % 1024, by omega⟩ ⟨(j 0).val % 4, by omega⟩
  have hb := hx d (ix2 (⟨(j 0).val / 4 % 1024, by omega⟩ : Fin 1024) (⟨(j 0).val / 4096, by omega⟩ : Fin 50))
  rw [hj, h]
  dsimp only
  omega

/-! ## The table as chunks -/

/-- The table the SparseCore call reads is the second argument, viewed as chunks of sixteen. -/
theorem tableOf_eq (d : Dev nD) : tableOf m d = shapeCast S4000000x16 (table m d) shapeCasts_S1000000x64_S4000000x16 := by
  unfold tableOf V1 before
  show after _ _ (Proc.devRef .tc main_v11) = _
  after_reads_simp
  rfl

/-- Chunk 4 * v + e / 16 of the table holds, at lane e % 16, column e of row v. -/
theorem tableOf_apply (d : Dev nD) (v : Fin 1000000) (e : Fin 64) :
    tableOf m d (ix2 (⟨4 * v.val + e.val / 16, by omega⟩ : Fin 4000000) (⟨e.val % 16, by omega⟩ : Fin 16)) = table m d (ix2 v e) := by
  rw [tableOf_eq]
  exact shapeCast_apply _ _ _ _ (by
    rw [Shape.rowMajor_val_two, Shape.rowMajor_val_two]
    show v.val * 64 + e.val = (4 * v.val + e.val / 16) * 16 + e.val % 16
    omega)

/-! ## The result -/

/-- The program's result is what the SparseCore call wrote, viewed as [50, 1024, 64]. -/
theorem result_eq (d : Dev nD) : V3 m d rB
    = shapeCast S50x1024x64 (gath (listOf m) (tableOf m) d) shapeCasts_S204800x16_S50x1024x64 := by
  rw [← V2_o]
  unfold V3 behind
  show after _ _ (Proc.devRef .tc main_v13) = _
  after_reads_simp
  rfl

/-- With every index below 1000000, the result at (t, b, e) is the table at row x[b, t], column e. -/
theorem result_apply (hx : ∀ d i, (indices m d i).toNat < 1000000) (d : Dev nD) (t : Fin 50) (b : Fin 1024) (e : Fin 64) :
    (V3 m d rB : FVec F S50x1024x64 .f32) (ix3 t b e) = table m d (ix2 (⟨(indices m d (ix2 b t)).toNat, hx d _⟩ : Fin 1000000) e) := by
  rw [result_eq, ← tableOf_apply]
  rw [shapeCast_apply _ _ _ (ix2 (⟨(t.val * 1024 + b.val) * 4 + e.val / 16, by omega⟩ : Fin 204800) (⟨e.val % 16, by omega⟩ : Fin 16))
    (by
      rw [Shape.rowMajor_val_two, Shape.rowMajor_val_three]
      show ((t.val * 1024 + b.val) * 4 + e.val / 16) * 16 + e.val % 16 = (t.val * 1024 + b.val) * 64 + e.val
      omega)]
  have h := toNat_listOf m hx d t b ⟨e.val / 16, by omega⟩
  have hb := hx d (ix2 b t)
  show tableOf m d (ix2 (rowOf (listOf m d) _) _) = _
  congr 2
  refine Fin.ext ?_
  show (listOf m d (ix1 _) : BitVec 32).toNat % 4000000 = _
  erw [h]
  exact Nat.mod_eq_of_lt (by dsimp only; omega)

/-- The program leaves its first argument as it was. -/
theorem indices_kept (d : Dev nD) : V3 m d a0B = m (d, a0B) := by
  unfold V3 behind
  show after _ _ (Proc.devRef .tc main_arg0) = _
  after_reads_simp
  unfold V2
  rw [Function.update_of_ne (by decide)]
  unfold V1 before
  after_reads_simp
  rfl

/-- The program leaves its second argument as it was. -/
theorem table_kept (d : Dev nD) : V3 m d a1B = m (d, a1B) := by
  unfold V3 behind
  show after _ _ (Proc.devRef .tc main_arg1) = _
  after_reads_simp
  unfold V2
  rw [Function.update_of_ne (by decide)]
  unfold V1 before
  after_reads_simp
  rfl

end Cert.TakeRows
end
-- ==== Proof.Gather.Range.lean ====
/-
  What the precondition on the indices says.

  The precondition is the conjunction, over all 1024 * 50 indices, of "at least 0 and less than 1000000". Read back: every
  index, as a natural number, is below 1000000.
-/
module

public import proofs.«01_k».proof.Pre_x_in_table
public import Idealize.ShloMosaic.Lib.ReduceAll
public import Idealize.ShloMosaic.Lib.WordCmp

@[expose] public section

noncomputable section

namespace Cert.TakeRows

open Idealize.ShloMosaic
open Cert.Pre_x_in_table

/-- Where the precondition holds, every index is below 1000000. -/
theorem lt_of_pre {F : FTy → Type} [FloatOps F] [Cert.Pre_x_in_table.Facts] (x : IVec S1024x50 32) (emb : FVec F S1000000x64 .f32)
    (h : Cert.Pre_x_in_table.fn (F := F) x emb = fun _ => 1#1) (i : S1024x50.Idx) : (x i).toNat < 1000000 := by
  have : Subsingleton S_.Idx := ⟨fun _ _ => funext fun a => a.elim0⟩
  have h1 := Host.reduce_andi_all _ _ _ _ (fun a => a.elim0) (congrFun h (fun a => a.elim0)) i
  have h2 : IntOp.andi (IntOp.cmpi .sge (x i) 0#32) (IntOp.cmpi .slt (x i) (BitVec.ofNat 32 1000000)) = 1#1 := h1
  rw [WordCmp.andi_sge_zero_slt_ofNat (by decide)] at h2
  exact (WordCmp.ofBool_decide_eq_one_iff _).1 h2

end Cert.TakeRows
end
-- ==== Proof.Gather.Reference.lean ====
/-
  What the reference computes: the rows of the table, taken row by row.

  The reference wraps a negative index, takes the row at the index clamped to the table, and keeps it where the index is
  within the table. With every index below 1000000 nothing wraps, clamps or is masked: its result at (t, b, e) is the table
  at row x[b, t], column e.
-/
module

public import proofs.«01_k».proof.Proof.Gen.Rows.Read
public import Idealize.ShloMosaic.Lib.ReduceAll
public import Idealize.ShloMosaic.Lib.WordCmp
public import Idealize.ShloMosaic.Lib.ValueIdxCore

@[expose] public section

set_option maxRecDepth 16384

noncomputable section

namespace Cert.TakeRows

open Idealize.ShloMosaic
open Idealize.ShloMosaic.ValueIdx

/-! ## Taking whole rows of a matrix -/

/-- The dimension numbers of taking rows of an [N, E] matrix at a [B, T, 1] array of row numbers, into [B, T, E]. -/
abbrev rowDims (N E B T : Nat)
    (wf : GatherDims.WF ⟨2, ![N, E]⟩ ⟨3, ![B, T, 1]⟩ ⟨3, ![B, T, E]⟩ [2] [0] [] [0] [] 2 ![1, E]) :
    GatherDims ⟨2, ![N, E]⟩ ⟨3, ![B, T, 1]⟩ ⟨3, ![B, T, E]⟩ where
  offsetDims := [2]
  collapsedSliceDims := [0]
  operandBatchingDims := []
  startIndicesBatchingDims := []
  startIndexMap := [0]
  indexVectorDim := 2
  sliceSizes := ![1, E]
  wf := wf

/-- Rows taken, read at (b, t, e): where the row number there is v < N, the matrix at (v, e). -/
theorem rows_apply {α : Type} {N E B T : Nat}
    (wf : GatherDims.WF ⟨2, ![N, E]⟩ ⟨3, ![B, T, 1]⟩ ⟨3, ![B, T, E]⟩ [2] [0] [] [0] [] 2 ![1, E])
    (x : (⟨2, ![N, E]⟩ : Shape).Idx → α) (idx : IVec ⟨3, ![B, T, 1]⟩ 32) (b : Fin B) (t : Fin T) (e : Fin E) (v : Fin N)
    (hv : (idx (ix3 b t (0 : Fin 1))).toInt = v.val) :
    Host.gather (rowDims N E B T wf) x idx (ix3 b t e) = x (ix2 v e) := by
  have hN := v.isLt
  have hsi : (rowDims N E B T wf).siIdx (ix3 b t e) ⟨0, Nat.one_pos⟩ = ix3 b t (0 : Fin 1) := by
    funext a
    match a with
    | ⟨0, _⟩ => rfl
    | ⟨1, _⟩ => rfl
    | ⟨2, _⟩ => rfl
  refine congrArg x (funext fun a => Fin.ext ?_)
  match a with
  | ⟨0, _⟩ =>
    show min (idx ((rowDims N E B T wf).siIdx (ix3 b t e) ⟨0, Nat.one_pos⟩)).toInt.toNat (N - 1) + 0 + 0 = v.val
    rw [hsi, hv]
    omega
  | ⟨1, _⟩ => show 0 + 0 + e.val = e.val; omega

/-! ## The reference at an index -/

open Cert.Rows Cert.Rows.Gen Cert.Rows.Read

variable {F : FTy → Type} [FloatOps F]

/-- A word below 1000000 is not negative: the reference takes the row at the index itself. -/
theorem wrapped_apply (x : IVec S1024x50 32) (hx : ∀ i, (x i).toNat < 1000000) (i : S1024x50x1.Idx) :
    val_main_call0_v5 (F := F) x i = x (idx_main_call0_v5 i) := by
  rw [val_main_call0_v5_apply, val_main_call0_v4_apply, val_main_call0_v1_apply]
  show Scalar.select (IntOp.cmpi .slt _ 0#32) _ _ = _
  have h := hx (idx_main_call0_v5 i)
  rw [WordCmp.cmpi_slt_zero, decide_eq_false (by omega)]
  rfl

/-- Every index is within the table: the reference masks nothing. -/
theorem mask_apply (x : IVec S1024x50 32) (hx : ∀ i, (x i).toNat < 1000000) (j : S1024x50.Idx) :
    val_main_call0_v12 (F := F) x j = 1#1 := by
  unfold val_main_call0_v12
  refine Host.reduce_andi_one _ _ _ _ _ rfl fun i => ?_
  rw [val_main_call0_v11_apply, val_main_call0_v7_apply, val_main_call0_v10_apply, wrapped_apply x hx]
  show IntOp.andi (IntOp.cmpi .sge _ 0#32) (IntOp.cmpi .sle _ 999999#32) = 1#1
  have h := hx (idx_main_call0_v5 i)
  rw [WordCmp.cmpi_sge_zero, WordCmp.cmpi_sle_eq, WordCmp.andi_ofBool, decide_eq_true (by omega), decide_eq_true]
  · rfl
  · rw [BitVec.toInt_eq_toNat_of_lt (by omega)]
    show _ ≤ (999999 : Int)
    omega

/-- The reference's result at (t, b, e) is the table at row x[b, t], column e. -/
theorem reference_apply (x : IVec S1024x50 32) (emb : FVec F S1000000x64 .f32) (hx : ∀ i, (x i).toNat < 1000000)
    (t : Fin 50) (b : Fin 1024) (e : Fin 64) :
    val_main_v1 (F := F) x emb (ix3 t b e) = emb (ix2 (⟨(x (ix2 b t)).toNat, hx _⟩ : Fin 1000000) e) := by
  have hi : idx_main_v1 (ix3 t b e) = ix3 b t e := by
    funext a
    match a with
    | ⟨0, _⟩ => rfl
    | ⟨1, _⟩ => rfl
    | ⟨2, _⟩ => rfl
  rw [val_main_v1_apply, val_main_v0_apply, val_main_call0_v14_apply, mask_apply x hx, hi]
  show val_main_call0_v13 (F := F) x emb (ix3 b t e) = _
  unfold val_main_call0_v13
  refine rows_apply _ emb _ b t e _ ?_
  have hj : idx_main_call0_v5 (ix3 b t (0 : Fin 1)) = ix2 b t := by
    funext a
    match a with
    | ⟨0, _⟩ => rfl
    | ⟨1, _⟩ => rfl
  have h := hx (ix2 b t)
  rw [wrapped_apply x hx, hj, BitVec.toInt_eq_toNat_of_lt (by omega)]

end Cert.TakeRows
end
-- ==== Proof.Gather.Equation.lean ====
/-
  The gather's claims on machine numbers: it leaves the rows the reference takes, bit for bit, and its arguments unchanged.
-/
module

public import proofs.«01_k».proof.Defs
public import proofs.«01_k».proof.Proof.Gather.Host
public import proofs.«01_k».proof.Proof.Gather.Range
public import proofs.«01_k».proof.Proof.Gather.Reference
public import proofs.«01_k».proof.Proof.Gen.Pre_x_in_table
public import proofs.«01_k».proof.Proof.Gen.Rows.Run

@[expose] public section

set_option maxRecDepth 16384

noncomputable section

namespace Cert.TakeRows

open Idealize.ShloMosaic Idealize.SL.Sem
open Idealize.ShloMosaic.ValueIdx
open Cert.Gather

attribute [local instance] Cert.Gather.Gen.facts Cert.Rows.Gen.facts Cert.Pre_x_in_table.Gen.facts

section Run

variable {F : FTy → Type} [FloatOps F] [∀ e, Nonempty (Elt F e)]
variable (m : (ℓ : Loc nD τ sig) → Buf (Elt F) ℓ) (ρ : Dev nD → PrngReg)

/-- With every index below 1000000, the program's result is the reference's, of the same indices and table. -/
theorem result_eq_reference (hx : ∀ d i, (indices m d i).toNat < 1000000) (d : Dev nD) :
    (V3 m d rB : FVec F S50x1024x64 .f32) = Cert.Rows.Read.val_main_v1 (F := F) (indices m d) (table m d) := by
  funext y
  obtain ⟨t, b, e, rfl⟩ : ∃ (t : Fin 50) (b : Fin 1024) (e : Fin 64), y = ix3 t b e :=
    ⟨y 0, y 1, y 2, funext fun a => match a with | ⟨0, _⟩ => rfl | ⟨1, _⟩ => rfl | ⟨2, _⟩ => rfl⟩
  exact (result_apply m hx d t b e).trans (reference_apply (indices m d) (table m d) (hx d) t b e).symm

/-- The gather runs from every memory whose indices are below 1000000: its result is the reference's, its arguments are
    unchanged, and every semaphore is back at zero. -/
theorem run (hx : ∀ d i, (indices m d i).toNat < 1000000) :
    θ_run (Cert.Gather.defs (F := F)) (Cert.Gather.threads (F := F)) ⟨m, fun _ => 0, ρ⟩ (fun r =>
      (∀ d : Dev nD, r.2.mem (d, rB) = Cert.Rows.Read.val_main_v1 (F := F) (indices m d) (table m d)
        ∧ r.2.mem (d, a0B) = m (d, a0B) ∧ r.2.mem (d, a1B) = m (d, a1B))
      ∧ r.2.sem = fun _ => 0) :=
  (θ_run _ _ _).mono
    (fun _ h => ⟨fun d => ⟨(h.1 d).2.2.trans (result_eq_reference m hx d), (h.1 d).1.trans (indices_kept m d),
      (h.1 d).2.1.trans (table_kept m d)⟩, h.2⟩)
    (run_main m ρ (inRange_listOf m hx))

end Run

/-! ## The claims -/

/-- `Cert.quiescent_Gather`: the gather runs and leaves its arguments. -/
theorem frame_gather : Cert.quiescent_Gather := fun m ρ hp =>
  (θ_run _ _ _).mono (fun _ h => ⟨fun c => (h.1 c).2, h.2⟩) (run m ρ fun d i => lt_of_pre _ _ (hp d) i)

/-- `Cert.bitexact_Gather_Rows`: the gather's result is the reference's, bit for bit. -/
theorem bitexact : Cert.bitexact_Gather_Rows := by
  intro m ρ m' ρ' hp hagree
  refine ⟨fun c => Cert.Rows.Read.val_main_v1 (F := Bits) (indices m c) (table m c),
    (θ_run _ _ _).mono (fun _ h => h.1) (run m ρ fun d i => lt_of_pre _ _ (hp d) i), ?_⟩
  refine (θ_run _ _ _).mono (fun _ h c => ⟨(h c).1.trans ?_, (h c).2⟩) (Cert.Rows.Value.run (F := Bits) m' ρ')
  rw [(hagree c).1, (hagree c).2]
  exact Cert.Rows.Read.val_main_v1_eq _ _

/-- `Cert.quiescent_Rows`: the reference runs and leaves its arguments. -/
theorem frame_rows : Cert.quiescent_Rows := fun m ρ _ =>
  (θ_run Cert.Rows.defs _ _).mono (fun r h => ⟨fun c => (h c).2, sem_eq_zero_of_no_sems (by decide) r.2⟩)
    (Cert.Rows.Value.run (F := Bits) m ρ)

end Cert.TakeRows
end
-- ==== Proof.Gather.Ideal.lean ====
/-
  The gather's claims at the extended reals.

  The idealized gather is the gather's own text (the gather computes on no float: it copies), so its run is the gather's
  run at the extended reals, and likewise for the reference.
-/
module

public import proofs.«01_k».proof.Defs
public import proofs.«01_k».proof.Proof.Gather.Equation
public import proofs.«01_k».proof.Proof.Gen.GatherIdeal
public import proofs.«01_k».proof.Proof.Gen.RowsIdeal.Run
public import proofs.«01_k».proof.Proof.Gen.RowsIdeal.Read

@[expose] public section

set_option maxRecDepth 16384

noncomputable section

namespace Cert.TakeRows

open Idealize.ShloMosaic Idealize.SL.Sem

attribute [local instance] Cert.Gather.Gen.facts Cert.GatherIdeal.Gen.facts Cert.RowsIdeal.Gen.facts Cert.Pre_x_in_table.Gen.facts

/-- The two programs have the same functions, at the extended reals. -/
theorem defs_eq : Cert.GatherIdeal.defs (F := Ideal) = Cert.Gather.defs (F := Ideal) := rfl

/-- The two programs have the same threads, at the extended reals. -/
theorem threads_eq : Cert.GatherIdeal.threads (F := Ideal) = Cert.Gather.threads (F := Ideal) := rfl

/-- The two references compute the same array, at the extended reals. -/
theorem rows_eq : Cert.RowsIdeal.Read.val_main_v1 (F := Ideal) = Cert.Rows.Read.val_main_v1 (F := Ideal) := rfl

/-- `run`, of the idealized gather at the extended reals. -/
theorem run_ideal (m : (ℓ : Loc Cert.GatherIdeal.nD Cert.GatherIdeal.τ Cert.GatherIdeal.sig) → Buf (Elt Ideal) ℓ)
    (ρ : Dev Cert.GatherIdeal.nD → PrngReg) (hx : ∀ d i, (indices (F := Ideal) m d i).toNat < 1000000) :
    θ_run (Cert.GatherIdeal.defs (F := Ideal)) (Cert.GatherIdeal.threads (F := Ideal)) ⟨m, fun _ => 0, ρ⟩ (fun r =>
      (∀ d : Dev Cert.GatherIdeal.nD,
        r.2.mem (d, rB) = Cert.RowsIdeal.Read.val_main_v1 (F := Ideal) (indices (F := Ideal) m d) (table (F := Ideal) m d)
        ∧ r.2.mem (d, a0B) = m (d, a0B) ∧ r.2.mem (d, a1B) = m (d, a1B))
      ∧ r.2.sem = fun _ => 0) :=
  run (F := Ideal) m ρ hx

/-! ## The claims -/

/-- `Cert.quiescent_GatherIdeal`: the idealized gather runs and leaves its arguments. -/
theorem frame_gatherIdeal : Cert.quiescent_GatherIdeal := fun m ρ hp =>
  (θ_run _ _ _).mono (fun _ h => ⟨fun c => (h.1 c).2, h.2⟩) (run_ideal m ρ fun d i => lt_of_pre _ _ (hp d) i)

/-- `Cert.algebraic_GatherIdeal_RowsIdeal`: the idealized gather's result is the reference's. -/
theorem algebraic : Cert.algebraic_GatherIdeal_RowsIdeal := by
  intro m ρ m' ρ' hp hagree
  refine ⟨fun c => Cert.RowsIdeal.Read.val_main_v1 (F := Ideal) (indices (F := Ideal) m c) (table (F := Ideal) m c),
    (θ_run _ _ _).mono (fun _ h => h.1) (run_ideal m ρ fun d i => lt_of_pre _ _ (hp d) i), ?_⟩
  refine (θ_run _ _ _).mono (fun _ h c => ⟨(h c).1.trans ?_, (h c).2⟩) (Cert.RowsIdeal.Value.run (F := Ideal) m' ρ')
  rw [(hagree c).1, (hagree c).2]
  exact Cert.RowsIdeal.Read.val_main_v1_eq _ _

/-- `Cert.quiescent_RowsIdeal`: the reference runs and leaves its arguments. -/
theorem frame_rowsIdeal : Cert.quiescent_RowsIdeal := fun m ρ _ =>
  (θ_run Cert.RowsIdeal.defs _ _).mono (fun r h => ⟨fun c => (h c).2, sem_eq_zero_of_no_sems (by decide) r.2⟩)
    (Cert.RowsIdeal.Value.run (F := Ideal) m ρ)

/-- `Cert.quiescent_RowsIdeal_pre_x_in_table`: so it does where the indices are within the table. -/
theorem frame_rowsIdeal_pre : Cert.quiescent_RowsIdeal_pre_x_in_table := fun m ρ _ => frame_rowsIdeal m ρ trivial

end Cert.TakeRows
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Lstm.Equation
public import proofs.«01_k».proof.Proof.Gather.Equation
public import proofs.«01_k».proof.Proof.Gather.Ideal
public import proofs.«01_k».proof.Proof.Gen.Rows.Run
public import proofs.«01_k».proof.Proof.Gen.RowsIdeal.Run
public import proofs.«01_k».proof.Proof.Gen.Rows.Read
public import proofs.«01_k».proof.Proof.Gen.RowsIdeal.Read
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.RowsIdeal
public import proofs.«01_k».proof.Proof.Gen.Rows
public import proofs.«01_k».proof.Proof.Gen.Pre_x_in_table
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Gather.Gen.facts, Cert.GatherIdeal.Gen.facts,
    Cert.RowsIdeal.Gen.facts, Cert.Rows.Gen.facts, Cert.Pre_x_in_table.Gen.facts,
    fun m ρ _ => Cert.Kernel.Gen.frame m ρ, fun m ρ _ => Cert.KernelIdeal.Gen.frame m ρ, Cert.Lstm.frame_reference,
    Cert.TakeRows.frame_gather, Cert.TakeRows.frame_gatherIdeal, Cert.TakeRows.frame_rowsIdeal, Cert.TakeRows.frame_rowsIdeal_pre,
    Cert.TakeRows.frame_rows, trivial, Cert.Lstm.algebraic, trivial, Cert.TakeRows.algebraic, Cert.TakeRows.bitexact⟩

end Cert.Proof

end
